-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_padding [hPre_above_padding : Cert.Pre_above_padding.Facts] (m : (ℓ : Loc Cert.KernelIdeal.nD Cert.KernelIdeal.τ Cert.KernelIdeal.sig) → Buf (Elt Ideal) ℓ) : Prop :=
  ∀ c : Dev Cert.KernelIdeal.nD,
    (Cert.Pre_above_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_padding [hPre_above_padding : Cert.Pre_above_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_above_padding [hKernelIdeal : Cert.KernelIdeal.Facts] [hPre_above_padding : Cert.Pre_above_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_above_padding [hReferenceIdeal : Cert.ReferenceIdeal.Facts] [hPre_above_padding : Cert.Pre_above_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps2" .f32 0x24E69595#32 ((126765058482001 / 1267650600228229401496703205376 : ℝ) : EReal)
  ∧ IdealRules.named_const.Statement Cert.KernelIdeal.κ "a3_over_pi" .f32 0xBBC35A8B#32 (((-187293 / 10000000) * Real.pi⁻¹ : ℝ) : EReal)
  ∧ IdealRules.named_const.Statement Cert.KernelIdeal.κ "a2_over_pi" .f32 0x3CC1A480#32 (((74261 / 1000000) * Real.pi⁻¹ : ℝ) : EReal)
  ∧ IdealRules.named_const.Statement Cert.KernelIdeal.κ "a1_over_pi" .f32 0xBD8A46EF#32 (((-265143 / 1250000) * Real.pi⁻¹ : ℝ) : EReal)
  ∧ IdealRules.named_const.Statement Cert.KernelIdeal.κ "a0_over_pi" .f32 0x3EFFFD2F#32 (((1963411 / 1250000) * Real.pi⁻¹ : ℝ) : EReal)

def algebraic_KernelIdeal_ReferenceIdeal_pre_above_padding [hKernelIdeal : Cert.KernelIdeal.Facts] [hReferenceIdeal : Cert.ReferenceIdeal.Facts] [hPre_above_padding : Cert.Pre_above_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_above_padding : Cert.Pre_above_padding.Facts),
    quiescent_Kernel (hKernel := hKernel)
    ∧ quiescent_KernelIdeal (hKernelIdeal := hKernelIdeal)
    ∧ quiescent_KernelIdeal_pre_above_padding (hKernelIdeal := hKernelIdeal) (hPre_above_padding := hPre_above_padding)
    ∧ quiescent_ReferenceIdeal (hReferenceIdeal := hReferenceIdeal)
    ∧ quiescent_ReferenceIdeal_pre_above_padding (hReferenceIdeal := hReferenceIdeal) (hPre_above_padding := hPre_above_padding)
    ∧ preserves_Kernel_KernelIdeal
    ∧ algebraic_KernelIdeal_ReferenceIdeal_pre_above_padding (hKernelIdeal := hKernelIdeal) (hReferenceIdeal := hReferenceIdeal) (hPre_above_padding := hPre_above_padding)
-- ==== Pre_above_padding.lean ====
abbrev S8x512x256 : Shape := ⟨3, ![8, 512, 256]⟩
abbrev S8 : Shape := ⟨1, ![8]⟩
abbrev S512x8x9 : Shape := ⟨3, ![512, 8, 9]⟩
abbrev S_ : Shape := ⟨0, ![]⟩

class Facts : Prop where
  bcast_S_S512x8x9 : S_.BroadcastsInDim S512x8x9 (![] : Fin 0 → Fin S512x8x9.rank)
  reducesTo_S512x8x9_S_d0_1_2 : S512x8x9.ReducesTo [0, 1, 2] S_
  h_S_ : 0 < S_.numel

variable [Facts]

def fn {F : FTy → Type} [FloatOps F] (main_arg0 : FVec F S8x512x256 .f32) (main_arg1 : IVec S8 32) (main_arg2 : FVec F S512x8x9 .f32) : IVec S_ 1 :=
  let main_cst : FVec F S_ .f32 := constant S_ .f32 0xBF800000#32
  let main_v0 : FVec F S512x8x9 .f32 := broadcastInDim S512x8x9 ![] bcast_S_S512x8x9 main_cst
  let main_v1 : IVec S512x8x9 1 := cmpf .oge main_arg2 main_v0
  let main_c : IVec S_ 1 := constantI S_ 1 1#1
  let main_v2 : IVec S_ 1 := (fun x v => Host.reduce IntOp.andi x v reducesTo_S512x8x9_S_d0_1_2 h_S_) main_v1 main_c
  main_v2
-- ==== Kernel.lean ====
abbrev S8x512x256 : Shape := ⟨3, ![8, 512, 256]⟩
abbrev S8 : Shape := ⟨1, ![8]⟩
abbrev S512x8x9 : Shape := ⟨3, ![512, 8, 9]⟩
abbrev S8x9x512 : Shape := ⟨3, ![8, 9, 512]⟩
abbrev S_ : Shape := ⟨0, ![]⟩
abbrev S8x7x512 : Shape := ⟨3, ![8, 7, 512]⟩
abbrev S8x16x512 : Shape := ⟨3, ![8, 16, 512]⟩
abbrev S8x512x512 : Shape := ⟨3, ![8, 512, 512]⟩
abbrev S1x512x256 : Shape := ⟨3, ![1, 512, 256]⟩
abbrev S1x16x512 : Shape := ⟨3, ![1, 16, 512]⟩
abbrev S1x128x512 : Shape := ⟨3, ![1, 128, 512]⟩
abbrev S512x256 : Shape := ⟨2, ![512, 256]⟩
abbrev S1x512 : Shape := ⟨2, ![1, 512]⟩
abbrev S512x1 : Shape := ⟨2, ![512, 1]⟩
abbrev S128x256 : Shape := ⟨2, ![128, 256]⟩
abbrev S128x768 : Shape := ⟨2, ![128, 768]⟩
abbrev S1 : Shape := ⟨1, ![1]⟩
abbrev S512 : Shape := ⟨1, ![512]⟩
abbrev S16x512 : Shape := ⟨2, ![16, 512]⟩
abbrev S384x256 : Shape := ⟨2, ![384, 256]⟩
abbrev S128x384 : Shape := ⟨2, ![128, 384]⟩
abbrev S128x1 : Shape := ⟨2, ![128, 1]⟩
abbrev S1x384 : Shape := ⟨2, ![1, 384]⟩
abbrev S128 : Shape := ⟨1, ![128]⟩
abbrev S1x128 : Shape := ⟨2, ![1, 128]⟩
abbrev S128x512 : Shape := ⟨2, ![128, 512]⟩
abbrev S1x128x384 : Shape := ⟨3, ![1, 128, 384]⟩

abbrev nBuf : Space → Nat
  | .hbm => 7
  | .vmem => 12
  | .smem => 1
  | _ => 0

abbrev bufTy : (tb : Table) → Fin (tcTables nBuf tb) → BufTy
  | .hbm, ⟨0, _⟩ => ⟨S8x512x256, .f32⟩
  | .hbm, ⟨1, _⟩ => ⟨S512x8x9, .f32⟩
  | .hbm, ⟨2, _⟩ => ⟨S8x9x512, .f32⟩
  | .hbm, ⟨3, _⟩ => ⟨S_, .f32⟩
  | .hbm, ⟨4, _⟩ => ⟨S8x7x512, .f32⟩
  | .hbm, ⟨5, _⟩ => ⟨S8x16x512, .f32⟩
  | .hbm, ⟨6, _⟩ => ⟨S8x512x512, .f32⟩
  | .local _ .vmem, ⟨0, _⟩ => ⟨S1x512x256, .f32⟩
  | .local _ .vmem, ⟨1, _⟩ => ⟨S1x512x256, .f32⟩
  | .local _ .vmem, ⟨2, _⟩ => ⟨S1x16x512, .f32⟩
  | .local _ .vmem, ⟨3, _⟩ => ⟨S1x16x512, .f32⟩
  | .local _ .vmem, ⟨4, _⟩ => ⟨S1x128x512, .f32⟩
  | .local _ .vmem, ⟨5, _⟩ => ⟨S1x128x512, .f32⟩
  | .local _ .vmem, ⟨6, _⟩ => ⟨S512x256, .f32⟩
  | .local _ .vmem, ⟨7, _⟩ => ⟨S1x512, .i32⟩
  | .local _ .vmem, ⟨8, _⟩ => ⟨S512x1, .i32⟩
  | .local _ .vmem, ⟨9, _⟩ => ⟨S1x512, .f32⟩
  | .local _ .vmem, ⟨10, _⟩ => ⟨S128x256, .f32⟩
  | .local _ .vmem, ⟨11, _⟩ => ⟨S128x768, .f32⟩
  | .local _ .smem, ⟨0, _⟩ => ⟨S8, .i32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c0_i32_3 : BitVec 32 := 0#32
  let v10 : BitVec 1 := Scalar.cmpi .sgt arg0 c0_i32_3
  let v11 : BitVec 32 := Scalar.extui v10
  let c0_i32_4 : BitVec 32 := 0#32
  let v12 : BitVec 1 := Scalar.cmpi .slt arg0 c0_i32_4
  let v13 : BitVec 32 := Scalar.extui v12
  let v14 : BitVec 32 := Scalar.subi v11 v13
  let c4_i32 : BitVec 32 := 4#32
  let c0_i32_5 : BitVec 32 := 0#32
  let v15 : BitVec 1 := Scalar.cmpi .sgt c4_i32 c0_i32_5
  let v16 : BitVec 32 := Scalar.extui v15
  let c0_i32_6 : BitVec 32 := 0#32
  let v17 : BitVec 1 := Scalar.cmpi .slt c4_i32 c0_i32_6
  let v18 : BitVec 32 := Scalar.extui v17
  let v19 : BitVec 32 := Scalar.subi v16 v18
  let v20 : BitVec 1 := Scalar.cmpi .ne v14 v19
  let v21 : BitVec 32 := Scalar.remsi arg0 c4_i32
  let c0_i32_7 : BitVec 32 := 0#32
  let v22 : BitVec 1 := Scalar.cmpi .ne v21 c0_i32_7
  let v23 : BitVec 1 := Scalar.andi v20 v22
  let v9 : BitVec 32 := Scalar.divsi arg0 c4_i32
  let c1_i32_8 : BitVec 32 := 1#32
  let v24 : BitVec 32 := Scalar.subi v9 c1_i32_8
  let v25 : BitVec 32 := Scalar.select v23 v24 v9
  let v36 : Index := Scalar.indexCast v25
  ![v36.toNat]
def k0_mult1 (i : grid0.Coords) : BitVec 32 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c128_i32 : BitVec 32 := 128#32
  let v41 : BitVec 32 := Scalar.muli v35 c128_i32
  v41
def k0_mult2 (i : grid0.Coords) : BitVec 32 :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1_i32_17 : BitVec 32 := 1#32
  let v43 : BitVec 32 := Scalar.subi v35 c1_i32_17
  let c128_i32_18 : BitVec 32 := 128#32
  let v44 : BitVec 32 := Scalar.muli v43 c128_i32_18
  let c0_i32_19 : BitVec 32 := 0#32
  let v45 : BitVec 32 := Scalar.maxsi v44 c0_i32_19
  let c128_i32_20 : BitVec 32 := 128#32
  let v46 : BitVec 32 := Scalar.minsi v45 c128_i32_20
  v46
def k0_off2 (i : grid0.Coords) : Fin 2 → Nat :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c128_i32 : BitVec 32 := 128#32
  let v41 : BitVec 32 := Scalar.muli v35 c128_i32
  let v42 : BitVec 32 := v41
  let v48 : Index := Scalar.indexCast v42
  let c0 : Index := 0#32
  ![v48.toNat, 0]
def k0_off3 (i : grid0.Coords) : Fin 2 → Nat :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1_i32_17 : BitVec 32 := 1#32
  let v43 : BitVec 32 := Scalar.subi v35 c1_i32_17
  let c128_i32_18 : BitVec 32 := 128#32
  let v44 : BitVec 32 := Scalar.muli v43 c128_i32_18
  let c0_i32_19 : BitVec 32 := 0#32
  let v45 : BitVec 32 := Scalar.maxsi v44 c0_i32_19
  let c128_i32_20 : BitVec 32 := 128#32
  let v46 : BitVec 32 := Scalar.minsi v45 c128_i32_20
  let v47 : BitVec 32 := v46
  let v50 : Index := Scalar.indexCast v47
  let c0_21 : Index := 0#32
  ![v50.toNat, 0]
def k0_off4 (i : grid0.Coords) : Fin 2 → Nat :=
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c128_i32 : BitVec 32 := 128#32
  let v41 : BitVec 32 := Scalar.muli v35 c128_i32
  let v42 : BitVec 32 := v41
  let v91 : Index := Scalar.indexCast v42
  let c0_30 : Index := 0#32
  ![v91.toNat, 0]
def k0_off5 (i : grid0.Coords) : Fin 2 → Nat :=
  let c0_31 : Index := 0#32
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1_i32_17 : BitVec 32 := 1#32
  let v43 : BitVec 32 := Scalar.subi v35 c1_i32_17
  let c128_i32_18 : BitVec 32 := 128#32
  let v44 : BitVec 32 := Scalar.muli v43 c128_i32_18
  let c0_i32_19 : BitVec 32 := 0#32
  let v45 : BitVec 32 := Scalar.maxsi v44 c0_i32_19
  let c128_i32_20 : BitVec 32 := 128#32
  let v46 : BitVec 32 := Scalar.minsi v45 c128_i32_20
  let v47 : BitVec 32 := v46
  let v93 : Index := Scalar.indexCast v47
  ![0, v93.toNat]
def k0_mult3 (i : grid0.Coords) : BitVec 32 :=
  let arg0 : BitVec 32 := BitVec.ofNat 32 (i 0).val
  let c2_i32 : BitVec 32 := 2#32
  let c0_i32_34 : BitVec 32 := 0#32
  let v113 : BitVec 1 := Scalar.cmpi .eq c2_i32 c0_i32_34
  let c1_i32_35 : BitVec 32 := 1#32
  let v114 : BitVec 32 := Scalar.select v113 c1_i32_35 c2_i32
  let v115 : BitVec 32 := Scalar.remsi arg0 v114
  let c0_i32_37 : BitVec 32 := 0#32
  let v117 : BitVec 1 := Scalar.cmpi .slt v115 c0_i32_37
  let c0_i32_38 : BitVec 32 := 0#32
  let v118 : BitVec 1 := Scalar.cmpi .slt v114 c0_i32_38
  let v119 : BitVec 1 := Scalar.xori v117 v118
  let c0_i32_36 : BitVec 32 := 0#32
  let v116 : BitVec 1 := Scalar.cmpi .ne v115 c0_i32_36
  let v120 : BitVec 1 := Scalar.andi v119 v116
  let v121 : BitVec 32 := Scalar.addi v115 v114
  let v122 : BitVec 32 := Scalar.select v120 v121 v115
  let c384_i32 : BitVec 32 := 384#32
  let v123 : BitVec 32 := Scalar.muli v122 c384_i32
  v123
def k0_off6 (i : grid0.Coords) : Fin 2 → Nat :=
  let c0_39 : Index := 0#32
  let arg0 : BitVec 32 := BitVec.ofNat 32 (i 0).val
  let c2_i32 : BitVec 32 := 2#32
  let c0_i32_34 : BitVec 32 := 0#32
  let v113 : BitVec 1 := Scalar.cmpi .eq c2_i32 c0_i32_34
  let c1_i32_35 : BitVec 32 := 1#32
  let v114 : BitVec 32 := Scalar.select v113 c1_i32_35 c2_i32
  let v115 : BitVec 32 := Scalar.remsi arg0 v114
  let c0_i32_37 : BitVec 32 := 0#32
  let v117 : BitVec 1 := Scalar.cmpi .slt v115 c0_i32_37
  let c0_i32_38 : BitVec 32 := 0#32
  let v118 : BitVec 1 := Scalar.cmpi .slt v114 c0_i32_38
  let v119 : BitVec 1 := Scalar.xori v117 v118
  let c0_i32_36 : BitVec 32 := 0#32
  let v116 : BitVec 1 := Scalar.cmpi .ne v115 c0_i32_36
  let v120 : BitVec 1 := Scalar.andi v119 v116
  let v121 : BitVec 32 := Scalar.addi v115 v114
  let v122 : BitVec 32 := Scalar.select v120 v121 v115
  let c384_i32 : BitVec 32 := 384#32
  let v123 : BitVec 32 := Scalar.muli v122 c384_i32
  let v124 : BitVec 32 := v123
  let v125 : Index := Scalar.indexCast v124
  ![0, v125.toNat]
def k0_off7 (i : grid0.Coords) : Fin 2 → Nat :=
  let c0_43 : Index := 0#32
  let arg0 : BitVec 32 := BitVec.ofNat 32 (i 0).val
  let c4_i32_9 : BitVec 32 := 4#32
  let c0_i32_10 : BitVec 32 := 0#32
  let v26 : BitVec 1 := Scalar.cmpi .eq c4_i32_9 c0_i32_10
  let c1_i32_11 : BitVec 32 := 1#32
  let v27 : BitVec 32 := Scalar.select v26 c1_i32_11 c4_i32_9
  let v28 : BitVec 32 := Scalar.remsi arg0 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c128_i32 : BitVec 32 := 128#32
  let v41 : BitVec 32 := Scalar.muli v35 c128_i32
  let v42 : BitVec 32 := v41
  let v136 : Index := Scalar.indexCast v42
  ![0, v136.toNat]
def k0_mult4 (i : grid0.Coords) : BitVec 32 :=
  let arg0 : BitVec 32 := BitVec.ofNat 32 (i 0).val
  let c2_i32_44 : BitVec 32 := 2#32
  let c0_i32_45 : BitVec 32 := 0#32
  let v141 : BitVec 1 := Scalar.cmpi .eq c2_i32_44 c0_i32_45
  let c1_i32_46 : BitVec 32 := 1#32
  let v142 : BitVec 32 := Scalar.select v141 c1_i32_46 c2_i32_44
  let v143 : BitVec 32 := Scalar.remsi arg0 v142
  let c0_i32_48 : BitVec 32 := 0#32
  let v145 : BitVec 1 := Scalar.cmpi .slt v143 c0_i32_48
  let c0_i32_49 : BitVec 32 := 0#32
  let v146 : BitVec 1 := Scalar.cmpi .slt v142 c0_i32_49
  let v147 : BitVec 1 := Scalar.xori v145 v146
  let c0_i32_47 : BitVec 32 := 0#32
  let v144 : BitVec 1 := Scalar.cmpi .ne v143 c0_i32_47
  let v148 : BitVec 1 := Scalar.andi v147 v144
  let v149 : BitVec 32 := Scalar.addi v143 v142
  let v150 : BitVec 32 := Scalar.select v148 v149 v143
  let c128_i32_50 : BitVec 32 := 128#32
  let v151 : BitVec 32 := Scalar.muli v150 c128_i32_50
  v151
def k0_off8 (i : grid0.Coords) : Fin 2 → Nat :=
  let c0_51 : Index := 0#32
  let arg0 : BitVec 32 := BitVec.ofNat 32 (i 0).val
  let c2_i32_44 : BitVec 32 := 2#32
  let c0_i32_45 : BitVec 32 := 0#32
  let v141 : BitVec 1 := Scalar.cmpi .eq c2_i32_44 c0_i32_45
  let c1_i32_46 : BitVec 32 := 1#32
  let v142 : BitVec 32 := Scalar.select v141 c1_i32_46 c2_i32_44
  let v143 : BitVec 32 := Scalar.remsi arg0 v142
  let c0_i32_48 : BitVec 32 := 0#32
  let v145 : BitVec 1 := Scalar.cmpi .slt v143 c0_i32_48
  let c0_i32_49 : BitVec 32 := 0#32
  let v146 : BitVec 1 := Scalar.cmpi .slt v142 c0_i32_49
  let v147 : BitVec 1 := Scalar.xori v145 v146
  let c0_i32_47 : BitVec 32 := 0#32
  let v144 : BitVec 1 := Scalar.cmpi .ne v143 c0_i32_47
  let v148 : BitVec 1 := Scalar.andi v147 v144
  let v149 : BitVec 32 := Scalar.addi v143 v142
  let v150 : BitVec 32 := Scalar.select v148 v149 v143
  let c128_i32_50 : BitVec 32 := 128#32
  let v151 : BitVec 32 := Scalar.muli v150 c128_i32_50
  let v152 : BitVec 32 := v151
  let v153 : Index := Scalar.indexCast v152
  ![0, v153.toNat]
def k0_cond4 (i : grid0.Coords) : BitVec 1 :=
  let arg0 : BitVec 32 := BitVec.ofNat 32 (i 0).val
  let c1_i32 : BitVec 32 := 1#32
  let v6 : BitVec 1 := Scalar.cmpi .sge arg0 c1_i32
  let v7 : BitVec 32 := Scalar.extui v6
  let c0_i32_2 : BitVec 32 := 0#32
  let v8 : BitVec 1 := Scalar.cmpi .ne v7 c0_i32_2
  v8

def k0_mult5 (i : grid0.Coords) : BitVec 32 :=
  let arg0 : BitVec 32 := BitVec.ofNat 32 (i 0).val
  let c1_i32_3 : BitVec 32 := 1#32
  let v9 : BitVec 32 := Scalar.subi arg0 c1_i32_3
  let c4_i32 : BitVec 32 := 4#32
  let c0_i32_4 : BitVec 32 := 0#32
  let v10 : BitVec 1 := Scalar.cmpi .eq c4_i32 c0_i32_4
  let c1_i32_5 : BitVec 32 := 1#32
  let v11 : BitVec 32 := Scalar.select v10 c1_i32_5 c4_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c1_i32_9 : BitVec 32 := 1#32
  let v20 : BitVec 32 := Scalar.subi v19 c1_i32_9
  let c128_i32 : BitVec 32 := 128#32
  let v21 : BitVec 32 := Scalar.muli v20 c128_i32
  let c0_i32_10 : BitVec 32 := 0#32
  let v22 : BitVec 32 := Scalar.maxsi v21 c0_i32_10
  let c128_i32_11 : BitVec 32 := 128#32
  let v23 : BitVec 32 := Scalar.minsi v22 c128_i32_11
  v23
def k0_mult6 (i : grid0.Coords) : BitVec 32 :=
  let arg0 : BitVec 32 := BitVec.ofNat 32 (i 0).val
  let c1_i32_12 : BitVec 32 := 1#32
  let v25 : BitVec 32 := Scalar.subi arg0 c1_i32_12
  let c2_i32 : BitVec 32 := 2#32
  let c0_i32_13 : BitVec 32 := 0#32
  let v26 : BitVec 1 := Scalar.cmpi .eq c2_i32 c0_i32_13
  let c1_i32_14 : BitVec 32 := 1#32
  let v27 : BitVec 32 := Scalar.select v26 c1_i32_14 c2_i32
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c128_i32_18 : BitVec 32 := 128#32
  let v36 : BitVec 32 := Scalar.muli v35 c128_i32_18
  v36
def k0_off9 (i : grid0.Coords) : Fin 2 → Nat :=
  let c0 : Index := 0#32
  let arg0 : BitVec 32 := BitVec.ofNat 32 (i 0).val
  let c1_i32_12 : BitVec 32 := 1#32
  let v25 : BitVec 32 := Scalar.subi arg0 c1_i32_12
  let c2_i32 : BitVec 32 := 2#32
  let c0_i32_13 : BitVec 32 := 0#32
  let v26 : BitVec 1 := Scalar.cmpi .eq c2_i32 c0_i32_13
  let c1_i32_14 : BitVec 32 := 1#32
  let v27 : BitVec 32 := Scalar.select v26 c1_i32_14 c2_i32
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c128_i32_18 : BitVec 32 := 128#32
  let v36 : BitVec 32 := Scalar.muli v35 c128_i32_18
  let v37 : BitVec 32 := v36
  let v38 : Index := Scalar.indexCast v37
  ![0, v38.toNat]
def k0_off10 (i : grid0.Coords) : Fin 2 → Nat :=
  let c0_19 : Index := 0#32
  let arg0 : BitVec 32 := BitVec.ofNat 32 (i 0).val
  let c1_i32_3 : BitVec 32 := 1#32
  let v9 : BitVec 32 := Scalar.subi arg0 c1_i32_3
  let c4_i32 : BitVec 32 := 4#32
  let c0_i32_4 : BitVec 32 := 0#32
  let v10 : BitVec 1 := Scalar.cmpi .eq c4_i32 c0_i32_4
  let c1_i32_5 : BitVec 32 := 1#32
  let v11 : BitVec 32 := Scalar.select v10 c1_i32_5 c4_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c1_i32_9 : BitVec 32 := 1#32
  let v20 : BitVec 32 := Scalar.subi v19 c1_i32_9
  let c128_i32 : BitVec 32 := 128#32
  let v21 : BitVec 32 := Scalar.muli v20 c128_i32
  let c0_i32_10 : BitVec 32 := 0#32
  let v22 : BitVec 32 := Scalar.maxsi v21 c0_i32_10
  let c128_i32_11 : BitVec 32 := 128#32
  let v23 : BitVec 32 := Scalar.minsi v22 c128_i32_11
  let v24 : BitVec 32 := v23
  let v40 : Index := Scalar.indexCast v24
  ![0, v40.toNat]
def k0_mult7 (i : grid0.Coords) : BitVec 32 :=
  let arg0 : BitVec 32 := BitVec.ofNat 32 (i 0).val
  let c1_i32_20 : BitVec 32 := 1#32
  let v42 : BitVec 32 := Scalar.subi arg0 c1_i32_20
  let c2_i32_21 : BitVec 32 := 2#32
  let c0_i32_22 : BitVec 32 := 0#32
  let v43 : BitVec 1 := Scalar.cmpi .eq c2_i32_21 c0_i32_22
  let c1_i32_23 : BitVec 32 := 1#32
  let v44 : BitVec 32 := Scalar.select v43 c1_i32_23 c2_i32_21
  let v45 : BitVec 32 := Scalar.remsi v42 v44
  let c0_i32_25 : BitVec 32 := 0#32
  let v47 : BitVec 1 := Scalar.cmpi .slt v45 c0_i32_25
  let c0_i32_26 : BitVec 32 := 0#32
  let v48 : BitVec 1 := Scalar.cmpi .slt v44 c0_i32_26
  let v49 : BitVec 1 := Scalar.xori v47 v48
  let c0_i32_24 : BitVec 32 := 0#32
  let v46 : BitVec 1 := Scalar.cmpi .ne v45 c0_i32_24
  let v50 : BitVec 1 := Scalar.andi v49 v46
  let v51 : BitVec 32 := Scalar.addi v45 v44
  let v52 : BitVec 32 := Scalar.select v50 v51 v45
  let c384_i32 : BitVec 32 := 384#32
  let v53 : BitVec 32 := Scalar.muli v52 c384_i32
  v53
def k0_off11 (i : grid0.Coords) : Fin 2 → Nat :=
  let c0_27 : Index := 0#32
  let arg0 : BitVec 32 := BitVec.ofNat 32 (i 0).val
  let c1_i32_20 : BitVec 32 := 1#32
  let v42 : BitVec 32 := Scalar.subi arg0 c1_i32_20
  let c2_i32_21 : BitVec 32 := 2#32
  let c0_i32_22 : BitVec 32 := 0#32
  let v43 : BitVec 1 := Scalar.cmpi .eq c2_i32_21 c0_i32_22
  let c1_i32_23 : BitVec 32 := 1#32
  let v44 : BitVec 32 := Scalar.select v43 c1_i32_23 c2_i32_21
  let v45 : BitVec 32 := Scalar.remsi v42 v44
  let c0_i32_25 : BitVec 32 := 0#32
  let v47 : BitVec 1 := Scalar.cmpi .slt v45 c0_i32_25
  let c0_i32_26 : BitVec 32 := 0#32
  let v48 : BitVec 1 := Scalar.cmpi .slt v44 c0_i32_26
  let v49 : BitVec 1 := Scalar.xori v47 v48
  let c0_i32_24 : BitVec 32 := 0#32
  let v46 : BitVec 1 := Scalar.cmpi .ne v45 c0_i32_24
  let v50 : BitVec 1 := Scalar.andi v49 v46
  let v51 : BitVec 32 := Scalar.addi v45 v44
  let v52 : BitVec 32 := Scalar.select v50 v51 v45
  let c384_i32 : BitVec 32 := 384#32
  let v53 : BitVec 32 := Scalar.muli v52 c384_i32
  let v54 : BitVec 32 := v53
  let v55 : Index := Scalar.indexCast v54
  ![0, v55.toNat]
def k0_off12 (i : grid0.Coords) : Fin 3 → Nat :=
  let c0_31 : Index := 0#32
  let c0_32 : Index := 0#32
  let arg0 : BitVec 32 := BitVec.ofNat 32 (i 0).val
  let c1_i32_3 : BitVec 32 := 1#32
  let v9 : BitVec 32 := Scalar.subi arg0 c1_i32_3
  let c4_i32 : BitVec 32 := 4#32
  let c0_i32_4 : BitVec 32 := 0#32
  let v10 : BitVec 1 := Scalar.cmpi .eq c4_i32 c0_i32_4
  let c1_i32_5 : BitVec 32 := 1#32
  let v11 : BitVec 32 := Scalar.select v10 c1_i32_5 c4_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c1_i32_9 : BitVec 32 := 1#32
  let v20 : BitVec 32 := Scalar.subi v19 c1_i32_9
  let c128_i32 : BitVec 32 := 128#32
  let v21 : BitVec 32 := Scalar.muli v20 c128_i32
  let c0_i32_10 : BitVec 32 := 0#32
  let v22 : BitVec 32 := Scalar.maxsi v21 c0_i32_10
  let c128_i32_11 : BitVec 32 := 128#32
  let v23 : BitVec 32 := Scalar.minsi v22 c128_i32_11
  let v24 : BitVec 32 := v23
  let v65 : Index := Scalar.indexCast v24
  ![0, 0, v65.toNat]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "a0_over_pi" => some (((1963411 / 1250000) * Real.pi⁻¹ : ℝ) : EReal)
  | "a1_over_pi" => some (((-265143 / 1250000) * Real.pi⁻¹ : ℝ) : EReal)
  | "a2_over_pi" => some (((74261 / 1000000) * Real.pi⁻¹ : ℝ) : EReal)
  | "a3_over_pi" => some (((-187293 / 10000000) * Real.pi⁻¹ : ℝ) : EReal)
  | "eps2" => some ((126765058482001 / 1267650600228229401496703205376 : ℝ) : EReal)
  | _ => none
-- ==== ReferenceIdeal.lean ====
abbrev S8x512x256 : Shape := ⟨3, ![8, 512, 256]⟩
abbrev S8 : Shape := ⟨1, ![8]⟩
abbrev S512x8x9 : Shape := ⟨3, ![512, 8, 9]⟩
abbrev S_ : Shape := ⟨0, ![]⟩
abbrev S8x512 : Shape := ⟨2, ![8, 512]⟩
abbrev S8x512x1 : Shape := ⟨3, ![8, 512, 1]⟩
abbrev S8x512x512 : Shape := ⟨3, ![8, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x1 : Shape := ⟨2, ![8, 1]⟩
abbrev S8x1x512 : Shape := ⟨3, ![8, 1, 512]⟩
abbrev S1x512x512 : Shape := ⟨3, ![1, 512, 512]⟩
abbrev S512x8 : Shape := ⟨2, ![512, 8]⟩

abbrev nBuf : Space → Nat
  | .hbm => 133
  | .vmem => 0
  | .smem => 0
  | _ => 0

abbrev hbmTy0_0 (i : Nat) : BufTy := match i % 128 with
  | 0 => ⟨S8x512x256, .f32⟩
  | 1 => ⟨S8, .i32⟩
  | 2 => ⟨S512x8x9, .f32⟩
  | 3 => ⟨S8x512x256, .f32⟩
  | 4 => ⟨S_, .f32⟩
  | 5 => ⟨S8x512, .f32⟩
  | 6 => ⟨S8x512x1, .f32⟩
  | 7 => ⟨S8x512x1, .f32⟩
  | 8 => ⟨S_, .f32⟩
  | 9 => ⟨S8x512x1, .f32⟩
  | 10 => ⟨S8x512x1, .f32⟩
  | 11 => ⟨S8x512x256, .f32⟩
  | 12 => ⟨S8x512x256, .f32⟩
  | 13 => ⟨S8x512x512, .f32⟩
  | 14 => ⟨S_, .f32⟩
  | 15 => ⟨S_, .f32⟩
  | 16 => ⟨S_, .f32⟩
  | 17 => ⟨S8x512x512, .f32⟩
  | 18 => ⟨S8x512x512, .f32⟩
  | 19 => ⟨S_, .f32⟩
  | 20 => ⟨S8x512x512, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S_, .f32⟩
  | 27 => ⟨S8x512x512, .f32⟩
  | 28 => ⟨S8x512x512, .f32⟩
  | 29 => ⟨S8x512x512, .f32⟩
  | 30 => ⟨S_, .f32⟩
  | 31 => ⟨S8x512x512, .f32⟩
  | 32 => ⟨S8x512x512, .f32⟩
  | 33 => ⟨S8x512x512, .f32⟩
  | 34 => ⟨S8x512x512, .f32⟩
  | 35 => ⟨S8x512x512, .f32⟩
  | 36 => ⟨S_, .f32⟩
  | 37 => ⟨S8x512x512, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S_, .f32⟩
  | 44 => ⟨S8x512x512, .f32⟩
  | 45 => ⟨S8x512x512, .f32⟩
  | 46 => ⟨S8x512x512, .f32⟩
  | 47 => ⟨S8x512x512, .f32⟩
  | 48 => ⟨S_, .f32⟩
  | 49 => ⟨S8x512x512, .f32⟩
  | 50 => ⟨S8x512x512, .i1⟩
  | 51 => ⟨S_, .f32⟩
  | 52 => ⟨S_, .f32⟩
  | 53 => ⟨S_, .f32⟩
  | 54 => ⟨S8x512x512, .f32⟩
  | 55 => ⟨S8x512x512, .f32⟩
  | 56 => ⟨S8x512x512, .f32⟩
  | 57 => ⟨S_, .f32⟩
  | 58 => ⟨S_, .f32⟩
  | 59 => ⟨S_, .f32⟩
  | 60 => ⟨S8x512x512, .f32⟩
  | 61 => ⟨S8x512x512, .f32⟩
  | 62 => ⟨S_, .f32⟩
  | 63 => ⟨S8x512x512, .f32⟩
  | 64 => ⟨S8x512x512, .f32⟩
  | 65 => ⟨S512, .i32⟩
  | 66 => ⟨S512x1, .i32⟩
  | 67 => ⟨S1x512, .i32⟩
  | 68 => ⟨S512x512, .i32⟩
  | 69 => ⟨S512x512, .i32⟩
  | 70 => ⟨S512x512, .i32⟩
  | 71 => ⟨S512x512, .i32⟩
  | 72 => ⟨S_, .i32⟩
  | 73 => ⟨S512x512, .i32⟩
  | 74 => ⟨S512x512, .i1⟩
  | 75 => ⟨S1x512, .i32⟩
  | 76 => ⟨S8x1, .i32⟩
  | 77 => ⟨S8x512, .i32⟩
  | 78 => ⟨S8x512, .i32⟩
  | 79 => ⟨S8x512, .i1⟩
  | 80 => ⟨S8x512x1, .i1⟩
  | 81 => ⟨S8x1x512, .i1⟩
  | 82 => ⟨S8x512x512, .i1⟩
  | 83 => ⟨S8x512x512, .i1⟩
  | 84 => ⟨S8x512x512, .i1⟩
  | 85 => ⟨S1x512x512, .i1⟩
  | 86 => ⟨S8x512x512, .i1⟩
  | 87 => ⟨S8x512x512, .i1⟩
  | 88 => ⟨S512x8x9, .i32⟩
  | 89 => ⟨S_, .f32⟩
  | 90 => ⟨S_, .i32⟩
  | 91 => ⟨S512x8, .f32⟩
  | 92 => ⟨S512x8, .i32⟩
  | 93 => ⟨S8x512, .i32⟩
  | 94 => ⟨S8x512x1, .i32⟩
  | 95 => ⟨S8x1x512, .i32⟩
  | 96 => ⟨S8x512x512, .i32⟩
  | 97 => ⟨S8x512x512, .i32⟩
  | 98 => ⟨S8x512x512, .i1⟩
  | 99 => ⟨S8x512x512, .i1⟩
  | 100 => ⟨S8x512x512, .i32⟩
  | 101 => ⟨S_, .i32⟩
  | 102 => ⟨S8x512, .i32⟩
  | 103 => ⟨S8x512x512, .f32⟩
  | 104 => ⟨S8x512x512, .f32⟩
  | 105 => ⟨S8x512x512, .f32⟩
  | 106 => ⟨S8x512x512, .f32⟩
  | 107 => ⟨S_, .i32⟩
  | 108 => ⟨S8x512, .i32⟩
  | 109 => ⟨S8x512, .i1⟩
  | 110 => ⟨S8x512, .f32⟩
  | 111 => ⟨S8x512x1, .f32⟩
  | 112 => ⟨S8x512x512, .f32⟩
  | 113 => ⟨S8x512x512, .f32⟩
  | 114 => ⟨S8x512x512, .f32⟩
  | 115 => ⟨S_, .f32⟩
  | 116 => ⟨S8x512, .f32⟩
  | 117 => ⟨S_, .f32⟩
  | 118 => ⟨S8x512, .f32⟩
  | 119 => ⟨S8x512, .i1⟩
  | 120 => ⟨S_, .f32⟩
  | 121 => ⟨S_, .f32⟩
  | 122 => ⟨S8x512, .f32⟩
  | 123 => ⟨S8x512, .f32⟩
  | 124 => ⟨S_, .f32⟩
  | 125 => ⟨S8x512, .f32⟩
  | 126 => ⟨S8x512, .f32⟩
  | 127 => ⟨S8x512x1, .f32⟩
  | _ => ⟨S8x512x256, .f32⟩

abbrev hbmTy0_1 (i : Nat) : BufTy := match i % 128 with
  | 0 => ⟨S8x512x512, .f32⟩
  | 1 => ⟨S8x512x512, .f32⟩
  | 2 => ⟨S8x1x512, .f32⟩
  | 3 => ⟨S8x512x512, .f32⟩
  | 4 => ⟨S8x512x512, .f32⟩
  | _ => ⟨S8x512x256, .f32⟩

abbrev hbmTy (i : Nat) : BufTy := match i / 128 with
  | 0 => hbmTy0_0 i
  | 1 => hbmTy0_1 i
  | _ => ⟨S8x512x256, .f32⟩

abbrev bufTy : (tb : Table) → Fin (tcTables nBuf tb) → BufTy
  | .hbm, ⟨i, _⟩ => hbmTy i
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call2_v0 : Ref sig .tc := ⟨.hbm, 88, rfl⟩
abbrev main_call2_cst : Ref sig .tc := ⟨.hbm, 89, rfl⟩
abbrev main_call2_c : Ref sig .tc := ⟨.hbm, 90, rfl⟩
abbrev main_call2_v1_0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_call3_v0 : Ref sig .tc := ⟨.hbm, 121, rfl⟩
abbrev main_call3_v1 : Ref sig .tc := ⟨.hbm, 122, rfl⟩
abbrev main_v89 : Ref sig .tc := ⟨.hbm, 123, rfl⟩
abbrev main_cst_18 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]
-- ==== Proof.IdealBody.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The buffers -/

abbrev tbM : Memref sig .tc .smem S8 .i32 := Memref.whole main_arg1
abbrev s0M : Memref sig .tc .vmem S512x256 .f32 := Memref.whole cc0_scratch0
abbrev s1M : Memref sig .tc .vmem S1x512 .i32 := Memref.whole cc0_scratch1
abbrev s2M : Memref sig .tc .vmem S512x1 .i32 := Memref.whole cc0_scratch2
abbrev s3M : Memref sig .tc .vmem S1x512 .f32 := Memref.whole cc0_scratch3
abbrev s4M : Memref sig .tc .vmem S128x256 .f32 := Memref.whole cc0_scratch4
abbrev s5M : Memref sig .tc .vmem S128x768 .f32 := Memref.whole cc0_scratch5

/-- The first condition: the point is the first. -/
abbrev first (i : grid0.Coords) : Prop :=
  Scalar.cmpi .ne (Scalar.extui (Scalar.cmpi .eq (BitVec.ofNat 32 (i 0).val) 0#32) : BitVec 32) 0#32 = 1#1

/-- The row tile within the batch, as the kernel computes it. -/
abbrev tileWord (i : grid0.Coords) : BitVec 32 :=
  let v27 : BitVec 32 := Scalar.select (Scalar.cmpi .eq 4#32 0#32) 1#32 4#32
  let v28 : BitVec 32 := Scalar.remsi (BitVec.ofNat 32 (i 0).val) v27
  Scalar.select (Scalar.andi (Scalar.xori (Scalar.cmpi .slt v28 0#32) (Scalar.cmpi .slt v27 0#32)) (Scalar.cmpi .ne v28 0#32)) (Scalar.addi v28 v27) v28

/-- The third condition: the point is the first of its batch. -/
abbrev firstTile (i : grid0.Coords) : Prop :=
  Scalar.cmpi .ne (Scalar.extui (Scalar.cmpi .eq (tileWord i) 0#32) : BitVec 32) 0#32 = 1#1

/-- The first row of the point's tile. -/
abbrev rowWord (i : grid0.Coords) : BitVec 32 := Scalar.muli (tileWord i) 128#32

/-- The first column of the tile's slab. -/
abbrev loWord (i : grid0.Coords) : BitVec 32 :=
  Scalar.minsi (Scalar.maxsi (Scalar.muli (Scalar.subi (tileWord i) 1#32) 128#32) 0#32) 128#32

/-- The table cell of the point's batch. -/
abbrev tblIx (i : grid0.Coords) (h2 : k0_cond2 i = 1#1) : S8.Idx :=
  fun a => ⟨k0_off1 i a, by have := k0_off1_inb i h2 a; have e : S1.size a = 1 := (by decide : ∀ a, S1.size a = 1) a
                            omega⟩

section Pieces

variable (i : grid0.Coords) (xM : Memref sig .tc .vmem S1x512x256 .f32) (hx : xM.IsWhole)
  (qM : Memref sig .tc .vmem S1x16x512 .f32) (hq : qM.IsWhole) (oM : Memref sig .tc .vmem S1x128x512 .f32) (ho : oM.IsWhole)

/-- The first piece of a point: at the first point alone, the column degrees set to one. -/
noncomputable def headPart : Prog (TpuEff nD τ sig (Elt F) Λ₀ .tc) PUnit := do
  if k0_h1 : first i then do
    let v10 : Vec F S1x512 .f32 ← Prog.lift (.load s3M (Rect.unit (s := S1x512) ![0, 0] S1x512.size inb_S1x512_S1x512_0_0).toLoadRect (View.loadsAt_vmem h_S1x512))
    Prog.lift (.store s3M (Rect.unit (s := S1x512) ![0, 0] S1x512.size inb_S1x512_S1x512_0_0) (k0_pay1 (F := F)) Finset.univ (View.stores_vmem_bits_univ h_S1x512 rfl) (.inl rfl))
    pure ⟨⟩
  else do
    pure ⟨⟩

abbrev part1 (h2 : k0_cond2 i = 1#1) :=
  k0_part1 (F := F) i tbM (Memref.isWhole_whole _) xM hx qM hq oM ho s0M (Memref.isWhole_whole _) s1M (Memref.isWhole_whole _)
    s2M (Memref.isWhole_whole _) s3M (Memref.isWhole_whole _) s4M (Memref.isWhole_whole _) s5M (Memref.isWhole_whole _) (BitVec.ofNat 32 (i 0).val) h2

abbrev part2 (h2 : k0_cond2 i = 1#1) :=
  k0_part2 (F := F) i tbM (Memref.isWhole_whole _) xM hx qM hq oM ho s0M (Memref.isWhole_whole _) s1M (Memref.isWhole_whole _)
    s2M (Memref.isWhole_whole _) s3M (Memref.isWhole_whole _) s4M (Memref.isWhole_whole _) s5M (Memref.isWhole_whole _) h2

abbrev part3 (h2 : k0_cond2 i = 1#1) :=
  k0_part3 (F := F) i tbM (Memref.isWhole_whole _) xM hx qM hq oM ho s0M (Memref.isWhole_whole _) s1M (Memref.isWhole_whole _)
    s2M (Memref.isWhole_whole _) s3M (Memref.isWhole_whole _) s4M (Memref.isWhole_whole _) s5M (Memref.isWhole_whole _) (BitVec.ofNat 32 (i 0).val) h2

abbrev part4 (h4 : k0_cond4 i = 1#1) :=
  k0_part4 (F := F) i tbM (Memref.isWhole_whole _) xM hx qM hq oM ho s0M (Memref.isWhole_whole _) s1M (Memref.isWhole_whole _)
    s2M (Memref.isWhole_whole _) s3M (Memref.isWhole_whole _) s4M (Memref.isWhole_whole _) s5M (Memref.isWhole_whole _) (BitVec.ofNat 32 (i 0).val) h4

/-- The rest of a computing point: the tile's weights, their sums and the two stores of the inverse root degrees. -/
noncomputable def tilePart (h2 : k0_cond2 i = 1#1) (r : Σ' (v37 : Elt F .i32) (v42 : BitVec 32), BitVec 32) : Prog (TpuEff nD τ sig (Elt F) Λ₀ .tc) PUnit := do
  let ⟨v74, v90, v92⟩ : Σ' (v74 : FVec F S128x384 .f32) (v90 : IVec S128x384 1), Vec F S128x1 .i32 ← part2 i xM hx qM hq oM ho h2 r.1 r.2.1 r.2.2
  let ⟨v134, v135⟩ : Σ' (v134 : FVec F S128 .f32), FVec F S1x128 .f32 ← part3 i xM hx qM hq oM ho h2 r.2.1 v74 v90 v92
  Prog.lift (.store s3M (Rect.unit (s := S1x512) (k0_off7 i) S1x128.size (k0_off7_inb i h2)) (k0_pay2 v135) Finset.univ (View.stores_vmem_bits_univ h_S1x128 rfl) (.inl rfl))
  let v154 : Vec F S128x1 .f32 ← Prog.lift (.load s4M (Rect.unit (s := S128x256) (k0_off8 i) S128x1.size (k0_off8_inb i h2)).toLoadRect (View.loadsAt_vmem h_S128x1))
  Prog.lift (.store s4M (Rect.unit (s := S128x256) (k0_off8 i) S128x1.size (k0_off8_inb i h2)) (k0_pay3 v134) Finset.univ (View.stores_vmem_bits_univ h_S128x1 rfl) (.inl rfl))
  pure ⟨⟩

/-- The last piece of a point: the tile before this one scaled and written out. -/
noncomputable def outPart (h4 : k0_cond4 i = 1#1) : Prog (TpuEff nD τ sig (Elt F) Λ₀ .tc) PUnit := do
  let ⟨v24, v39, v41, v42, c2_i32_21, v43, c1_i32_23⟩ : Σ' (v24 : BitVec 32) (v39 : Vec F S128x1 .f32) (v41 : Vec F S1x384 .f32) (v42 : BitVec 32) (c2_i32_21 : BitVec 32) (v43 : BitVec 1), BitVec 32 ← part4 i xM hx qM hq oM ho h4
  let v56 : Vec F S128x384 .f32 ← Prog.lift (.load s5M (Rect.unit (s := S128x768) (k0_off11 i) S128x384.size (k0_off11_inb i h4)).toLoadRect (View.loadsAt_vmem h_S128x384))
  let v62 : Vec F S1x128x512 .f32 ← Prog.lift (.load oM (Rect.unit (s := S1x128x512) ![0, 0, 0] S1x128x512.size inb_S1x128x512_S1x128x512_0_0_0).toLoadRect (View.loadsAt_vmem h_S1x128x512))
  Prog.lift (.store oM (Rect.unit (s := S1x128x512) ![0, 0, 0] S1x128x512.size inb_S1x128x512_S1x128x512_0_0_0) (k0_pay4 (F := F)) Finset.univ (View.stores_vmem_bits_univ h_S1x128x512 rfl) (.inl rfl))
  let v66 : Vec F S1x128x384 .f32 ← Prog.lift (.load oM (Rect.unit (s := S1x128x512) (k0_off12 i) S1x128x384.size (k0_off12_inb i h4)).toLoadRect (View.loadsAt_vmem h_S1x128x384))
  Prog.lift (.store oM (Rect.unit (s := S1x128x512) (k0_off12 i) S1x128x384.size (k0_off12_inb i h4)) (k0_pay5 v39 v41 v56) Finset.univ (View.stores_vmem_bits_univ h_S1x128x384 rfl) (.inl rfl))
  pure ⟨⟩

/-- The body as its pieces. -/
theorem body_pieces :
    cc0__adj_kernel (F := F) i tbM (Memref.isWhole_whole _) xM hx qM hq oM ho s0M (Memref.isWhole_whole _) s1M (Memref.isWhole_whole _)
            s2M (Memref.isWhole_whole _) s3M (Memref.isWhole_whole _) s4M (Memref.isWhole_whole _) s5M (Memref.isWhole_whole _)
      = (do
          headPart i
          (if h2 : k0_cond2 i = 1#1 then part1 i xM hx qM hq oM ho h2 >>= tilePart i xM hx qM hq oM ho h2 else pure ⟨⟩)
          (if h4 : k0_cond4 i = 1#1 then outPart i xM hx qM hq oM ho h4 else pure ⟨⟩)
          pure ⟨⟩) := by
  rw [cc0__adj_kernel_eq_skeleton]
  unfold cc0__adj_kernel_skel headPart tilePart outPart
  by_cases h1 : first i <;> by_cases h2 : k0_cond2 i = 1#1 <;> by_cases h4 : k0_cond4 i = 1#1 <;>
    simp only [first, h1, h2, h4, dite_true, dite_false, bind_assoc, pure_bind] <;> rfl

end Pieces

section Triples

variable (c : Dev nD) (q : PosShare TreeShare) (i : grid0.Coords) (xM : Memref sig .tc .vmem S1x512x256 .f32) (hx : xM.IsWhole)
  (qM : Memref sig .tc .vmem S1x16x512 .f32) (hq : qM.IsWhole) (oM : Memref sig .tc .vmem S1x128x512 .f32) (ho : oM.IsWhole)

/-- At the first point the column degrees become ones. -/
theorem head_first (h1 : first i) (D : S1x512.Idx → Elt F .f32) (K : PUnit → sProp 𝕄) :
    iprop(owns (c : Thread nD τ) s3M fullShare D ∗ (owns (c : Thread nD τ) s3M fullShare (k0_pay1 (F := F)) -∗ K ⟨⟩))
      ⊢ wp frame (wpE (defs₀ (F := F)) Variants.none c none) Set.univ (headPart (F := F) i) K := by
  unfold headPart owns
  iintro ⟨⟨%f, %hf, H⟩, Hk⟩
  sl_exec
  sl_step
  iapply Hk
  iexists _
  isplitr
  swap; iexact H
  ipureintro
  exact View.read_writes_full _ _ _ _ _

/-- At a later point nothing happens. -/
theorem head_other (h1 : ¬ first i) (K : PUnit → sProp 𝕄) :
    K ⟨⟩ ⊢ wp frame (wpE (defs₀ (F := F)) Variants.none c none) Set.univ (headPart (F := F) i) K := by
  unfold headPart
  iintro Hk
  sl_exec
  sl_step
  iexact Hk

/-- Inside a batch the stored rows and speakers are kept; the point's table word, first row and first slab column are handed on. -/
theorem part1_other (h2 : k0_cond2 i = 1#1) (h3 : ¬ firstTile i) (T : S8.Idx → Elt F .i32)
    (K : (Σ' (v37 : Elt F .i32) (v42 : BitVec 32), BitVec 32) → sProp 𝕄) :
    iprop(owns (c : Thread nD τ) tbM q T
        ∗ (owns (c : Thread nD τ) tbM q T -∗ K ⟨T (tblIx i h2), rowWord i, loWord i⟩))
      ⊢ wp frame (wpE (defs₀ (F := F)) Variants.none c none) Set.univ (part1 (F := F) i xM hx qM hq oM ho h2) K := by
  simp only [part1, k0_part1_eq_skeleton]; unfold k0_part1_skel owns
  iintro ⟨⟨%f, %hf, H⟩, Hk⟩
  sl_exec
  sl_step
  have e : K ⟨T (tblIx i h2), rowWord i, loWord i⟩ = K ⟨part1_other.sl.r c i h2 f, part1_other.sl.v41 i, part1_other.sl.v46 i⟩ := by
    subst hf
    sl_unfold_words
    rfl
  rw [e]
  iapply Hk
  iexists _; isplitr; swap; · iexact H
  ipureintro; exact hf

/-- At a batch's first point the normalised rows and the speakers are computed from the point's blocks and kept. -/
theorem part1_first (h2 : k0_cond2 i = 1#1) (h3 : firstTile i) (T : S8.Idx → Elt F .i32)
    (X : S1x512x256.Idx → Elt F .f32) (Q : S1x16x512.Idx → Elt F .f32)
    (A0 : S512x256.Idx → Elt F .f32) (A1 : S1x512.Idx → Elt F .i32) (A2 : S512x1.Idx → Elt F .i32)
    (K : (Σ' (v37 : Elt F .i32) (v42 : BitVec 32), BitVec 32) → sProp 𝕄) :
    iprop(owns (c : Thread nD τ) tbM q T ∗ owns (c : Thread nD τ) xM fullShare X ∗ owns (c : Thread nD τ) qM fullShare Q
        ∗ owns (c : Thread nD τ) s0M fullShare A0 ∗ owns (c : Thread nD τ) s1M fullShare A1 ∗ owns (c : Thread nD τ) s2M fullShare A2
        ∗ (iprop(owns (c : Thread nD τ) tbM q T ∗ owns (c : Thread nD τ) xM fullShare X ∗ owns (c : Thread nD τ) qM fullShare Q
            ∗ owns (c : Thread nD τ) s0M fullShare (k0_pay6 (F := F) X) ∗ owns (c : Thread nD τ) s1M fullShare (k0_pay8 (F := F) Q)
            ∗ owns (c : Thread nD τ) s2M fullShare (k0_pay9 (F := F) Q))
            -∗ K ⟨T (tblIx i h2), rowWord i, loWord i⟩))
      ⊢ wp frame (wpE (defs₀ (F := F)) Variants.none c none) Set.univ (part1 (F := F) i xM hx qM hq oM ho h2) K := by
  simp only [part1, k0_part1_eq_skeleton]; unfold k0_part1_skel owns
  iintro ⟨⟨%ft, %hft, HT⟩, ⟨%fx, %hfx, HX⟩, ⟨%fq, %hfq, HQ⟩, ⟨%f0, %hf0, H0⟩, ⟨%f1, %hf1, H1⟩, ⟨%f2, %hf2, H2⟩, Hk⟩
  sl_exec
  sl_step
  have e : K ⟨T (tblIx i h2), rowWord i, loWord i⟩ = K ⟨part1_first.sl.r c i h2 ft, part1_first.sl.v41 i, part1_first.sl.v46 i⟩ := by
    subst hft
    sl_unfold_words
    rfl
  rw [e]
  iapply Hk
  isplitl [HT]
  · iexists _; isplitr; swap; · iexact HT
    ipureintro; exact hft
  isplitl [HX]
  · iexists _; isplitr; swap; · iexact HX
    ipureintro; exact hfx
  isplitl [HQ]
  · iexists _; isplitr; swap; · iexact HQ
    ipureintro; exact hfq
  isplitl [H0]
  · iexists _; isplitr; swap; · iexact H0
    ipureintro
    rw [View.read_writes_full]
    sl_unfold_words
    rw [View.readAt_full, hfx]
  isplitl [H1]
  · iexists _; isplitr; swap; · iexact H1
    ipureintro
    rw [View.read_writes_full]
    sl_unfold_words
    rw [View.readAt_full, hfq]
  iexists _; isplitr; swap; · iexact H2
  ipureintro
  rw [View.read_writes_full]
  sl_unfold_words
  rw [View.readAt_full, hfq]

/-- The tile's masked weights, from the kept rows and speakers and the table word. -/
abbrev tileW (h2 : k0_cond2 i = 1#1) (A0 : S512x256.Idx → Elt F .f32) : FVec F S128x384 .f32 :=
  k0_pay10 (F := F) (VecWindow.window A0 (k0_off2 i) S128x256.size (k0_off2_inb i h2)) (VecWindow.window A0 (k0_off3 i) S384x256.size (k0_off3_inb i h2))

/-- A computing point stores the tile's weights in its slab, and the tile's inverse root degrees in the row and in the column. -/
theorem tile_run (h2 : k0_cond2 i = 1#1) (r : Σ' (v37 : Elt F .i32) (v42 : BitVec 32), BitVec 32)
    (A0 : S512x256.Idx → Elt F .f32) (A1 : S1x512.Idx → Elt F .i32) (A2 : S512x1.Idx → Elt F .i32)
    (A3 : S1x512.Idx → Elt F .f32) (A4 : S128x256.Idx → Elt F .f32) (A5 : S128x768.Idx → Elt F .f32)
    (K : PUnit → sProp 𝕄) :
    iprop(owns (c : Thread nD τ) s0M fullShare A0 ∗ owns (c : Thread nD τ) s1M fullShare A1 ∗ owns (c : Thread nD τ) s2M fullShare A2
        ∗ owns (c : Thread nD τ) s3M fullShare A3 ∗ owns (c : Thread nD τ) s4M fullShare A4 ∗ owns (c : Thread nD τ) s5M fullShare A5
        ∗ (iprop(owns (c : Thread nD τ) s0M fullShare A0 ∗ owns (c : Thread nD τ) s1M fullShare A1 ∗ owns (c : Thread nD τ) s2M fullShare A2
            ∗ owns (c : Thread nD τ) s3M fullShare (VecWindow.put A3 (k0_off7 i) S1x128.size (k0_pay2 (F := F) (k0_pay15 (F := F) (tileW i h2 A0) (k0_pay11 (F := F) r.1 r.2.1 r.2.2)
                (VecWindow.window A2 (k0_off4 i) S128x1.size (k0_off4_inb i h2)) (VecWindow.window A1 (k0_off5 i) S1x384.size (k0_off5_inb i h2)))))
            ∗ owns (c : Thread nD τ) s4M fullShare (VecWindow.put A4 (k0_off8 i) S128x1.size (k0_pay3 (F := F) (k0_pay14 (F := F) (tileW i h2 A0) (k0_pay11 (F := F) r.1 r.2.1 r.2.2)
                (VecWindow.window A2 (k0_off4 i) S128x1.size (k0_off4_inb i h2)) (VecWindow.window A1 (k0_off5 i) S1x384.size (k0_off5_inb i h2)))))
            ∗ owns (c : Thread nD τ) s5M fullShare (VecWindow.put A5 (k0_off6 i) S128x384.size (k0_pay13 (F := F) (tileW i h2 A0) (k0_pay11 (F := F) r.1 r.2.1 r.2.2)
                (VecWindow.window A2 (k0_off4 i) S128x1.size (k0_off4_inb i h2)) (VecWindow.window A1 (k0_off5 i) S1x384.size (k0_off5_inb i h2)))))
            -∗ K ⟨⟩))
      ⊢ wp frame (wpE (defs₀ (F := F)) Variants.none c none) Set.univ (tilePart (F := F) i xM hx qM hq oM ho h2 r) K := by
  unfold tilePart
  simp only [part2, part3, k0_part2_eq_skeleton, k0_part3_eq_skeleton]; unfold k0_part2_skel k0_part3_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [View.read_writes_cons_put _ _ _ _ _ rfl, View.writes_nil, hf3]
    subst hf0 hf1 hf2
    rfl
  isplitl [H4]
  · iexists _; isplitr; swap; · iexact H4
    ipureintro
    rw [View.read_writes_cons_put _ _ _ _ _ rfl, View.writes_nil, hf4]
    subst hf0 hf1 hf2
    rfl
  iexists _; isplitr; swap; · iexact H5
  ipureintro
  rw [View.read_writes_cons_put _ _ _ _ _ rfl, View.writes_nil, hf5]
  subst hf0 hf1 hf2
  rfl

/-- A writing point leaves in its output block zeros with the scaled slab put over them. -/
theorem out_run (h4 : k0_cond4 i = 1#1)
    (A3 : S1x512.Idx → Elt F .f32) (A4 : S128x256.Idx → Elt F .f32) (A5 : S128x768.Idx → Elt F .f32) (O : S1x128x512.Idx → Elt F .f32)
    (K : PUnit → sProp 𝕄) :
    iprop(owns (c : Thread nD τ) s3M fullShare A3 ∗ owns (c : Thread nD τ) s4M fullShare A4 ∗ owns (c : Thread nD τ) s5M fullShare A5
        ∗ owns (c : Thread nD τ) oM fullShare O
        ∗ (iprop(owns (c : Thread nD τ) s3M fullShare A3 ∗ owns (c : Thread nD τ) s4M fullShare A4 ∗ owns (c : Thread nD τ) s5M fullShare A5
            ∗ owns (c : Thread nD τ) oM fullShare (VecWindow.put (k0_pay4 (F := F)) (k0_off12 i) S1x128x384.size
                (k0_pay5 (F := F) (VecWindow.window A4 (k0_off9 i) S128x1.size (k0_off9_inb i h4)) (VecWindow.window A3 (k0_off10 i) S1x384.size (k0_off10_inb i h4))
                  (VecWindow.window A5 (k0_off11 i) S128x384.size (k0_off11_inb i h4)))))
            -∗ K ⟨⟩))
      ⊢ wp frame (wpE (defs₀ (F := F)) Variants.none c none) Set.univ (outPart (F := F) i xM hx qM hq oM ho h4) K := by
  unfold outPart
  simp only [part4, k0_part4_eq_skeleton]; unfold k0_part4_skel owns
  iintro ⟨⟨%f3, %hf3, H3⟩, ⟨%f4, %hf4, H4⟩, ⟨%f5, %hf5, H5⟩, ⟨%fo, %hfo, HO⟩, Hk⟩
  sl_exec
  sl_step
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; isplitr; swap; · iexact HO
  ipureintro
  rw [View.read_writes_cons_put _ _ _ _ _ rfl, View.read_writes_full]
  subst hf3 hf4 hf5
  rfl

/-- What the six scratches hold between points. -/
structure St (F : FTy → Type) where
  /-- the normalised rows -/
  a0 : S512x256.Idx → Elt F .f32
  /-- the speakers, as a row -/
  a1 : S1x512.Idx → Elt F .i32
  /-- the speakers, as a column -/
  a2 : S512x1.Idx → Elt F .i32
  /-- the inverse root degrees, as a row -/
  a3 : S1x512.Idx → Elt F .f32
  /-- the inverse root degrees, as two columns -/
  a4 : S128x256.Idx → Elt F .f32
  /-- the two slabs of weights -/
  a5 : S128x768.Idx → Elt F .f32

/-- The scratches held at a state. -/
noncomputable def held (S : St F) : sProp 𝕄 :=
  iprop(owns (c : Thread nD τ) s0M fullShare S.a0 ∗ owns (c : Thread nD τ) s1M fullShare S.a1 ∗ owns (c : Thread nD τ) s2M fullShare S.a2
        ∗ owns (c : Thread nD τ) s3M fullShare S.a3 ∗ owns (c : Thread nD τ) s4M fullShare S.a4 ∗ owns (c : Thread nD τ) s5M fullShare S.a5)

/-- The state after the first piece. -/
noncomputable def stHead (S : St F) : St F :=
  if first i then { S with a3 := k0_pay1 (F := F) } else S

/-- The state after the batch's rows and speakers are computed, if they are. -/
noncomputable def stLoad (X : S1x512x256.Idx → Elt F .f32) (Q : S1x16x512.Idx → Elt F .f32) (S : St F) : St F :=
  if firstTile i then { S with a0 := k0_pay6 (F := F) X, a1 := k0_pay8 (F := F) Q, a2 := k0_pay9 (F := F) Q } else S

/-- The window mask of a point, from the batch's table word. -/
noncomputable abbrev winMask (h2 : k0_cond2 i = 1#1) (T : S8.Idx → Elt F .i32) : IVec S128x384 1 :=
  k0_pay11 (F := F) (T (tblIx i h2)) (rowWord i) (loWord i)

/-- The speakers of a point's rows. -/
abbrev rowSpk (h2 : k0_cond2 i = 1#1) (S : St F) : S128x1.Idx → Elt F .i32 := VecWindow.window S.a2 (k0_off4 i) S128x1.size (k0_off4_inb i h2)

/-- The speakers of a point's slab columns. -/
abbrev colSpk (h2 : k0_cond2 i = 1#1) (S : St F) : S1x384.Idx → Elt F .i32 := VecWindow.window S.a1 (k0_off5 i) S1x384.size (k0_off5_inb i h2)

/-- The state after a tile is computed. -/
noncomputable def stTile (h2 : k0_cond2 i = 1#1) (T : S8.Idx → Elt F .i32) (S : St F) : St F :=
  { S with
    a3 := VecWindow.put S.a3 (k0_off7 i) S1x128.size (k0_pay2 (F := F) (k0_pay15 (F := F) (tileW i h2 S.a0) (winMask i h2 T) (rowSpk i h2 S) (colSpk i h2 S)))
    a4 := VecWindow.put S.a4 (k0_off8 i) S128x1.size (k0_pay3 (F := F) (k0_pay14 (F := F) (tileW i h2 S.a0) (winMask i h2 T) (rowSpk i h2 S) (colSpk i h2 S)))
    a5 := VecWindow.put S.a5 (k0_off6 i) S128x384.size (k0_pay13 (F := F) (tileW i h2 S.a0) (winMask i h2 T) (rowSpk i h2 S) (colSpk i h2 S)) }

/-- The state after a point. -/
noncomputable def stNext (T : S8.Idx → Elt F .i32) (X : S1x512x256.Idx → Elt F .f32) (Q : S1x16x512.Idx → Elt F .f32) (S : St F) : St F :=
  if h2 : k0_cond2 i = 1#1 then stTile i h2 T (stLoad i X Q (stHead i S)) else stHead i S

/-- The output block after a point that ends in state `S`. -/
noncomputable def outNext (S : St F) (O : S1x128x512.Idx → Elt F .f32) : S1x128x512.Idx → Elt F .f32 :=
  if h4 : k0_cond4 i = 1#1 then
    VecWindow.put (k0_pay4 (F := F)) (k0_off12 i) S1x128x384.size
      (k0_pay5 (F := F) (VecWindow.window S.a4 (k0_off9 i) S128x1.size (k0_off9_inb i h4)) (VecWindow.window S.a3 (k0_off10 i) S1x384.size (k0_off10_inb i h4))
        (VecWindow.window S.a5 (k0_off11 i) S128x384.size (k0_off11_inb i h4)))
  else O

/-- The first piece, from any state. -/
theorem head_run (S : St F) (K : PUnit → sProp 𝕄) :
    iprop(held c S ∗ (held c (stHead i S) -∗ K ⟨⟩)) ⊢ wp frame (wpE (defs₀ (F := F)) Variants.none c none) Set.univ (headPart (F := F) i) K := by
  unfold held stHead
  by_cases h1 : first i
  · rw [if_pos h1]
    iintro ⟨⟨H0, H1, H2, H3, H4, H5⟩, Hk⟩
    iapply (head_first c i h1 S.a3 K)
    isplitl [H3]; · iexact H3
    iintro H3
    iapply Hk
    isplitl [H0]; · iexact H0
    isplitl [H1]; · iexact H1
    isplitl [H2]; · iexact H2
    isplitl [H3]; · iexact H3
    isplitl [H4]; · iexact H4
    iexact H5
  · rw [if_neg h1]
    iintro ⟨H, Hk⟩
    iapply (head_other c i h1 K)
    iapply Hk
    iexact H

/-- The batch's rows and speakers, from any state. -/
theorem load_run (h2 : k0_cond2 i = 1#1) (T : S8.Idx → Elt F .i32)
    (X : S1x512x256.Idx → Elt F .f32) (Q : S1x16x512.Idx → Elt F .f32) (S : St F)
    (K : (Σ' (v37 : Elt F .i32) (v42 : BitVec 32), BitVec 32) → sProp 𝕄) :
    iprop(held c S ∗ owns (c : Thread nD τ) tbM q T ∗ owns (c : Thread nD τ) xM fullShare X ∗ owns (c : Thread nD τ) qM fullShare Q
        ∗ (iprop(held c (stLoad i X Q S) ∗ owns (c : Thread nD τ) tbM q T ∗ owns (c : Thread nD τ) xM fullShare X ∗ owns (c : Thread nD τ) qM fullShare Q)
            -∗ K ⟨T (tblIx i h2), rowWord i, loWord i⟩))
      ⊢ wp frame (wpE (defs₀ (F := F)) Variants.none c none) Set.univ (part1 (F := F) i xM hx qM hq oM ho h2) K := by
  unfold held stLoad
  by_cases h3 : firstTile i
  · rw [if_pos h3]
    iintro ⟨⟨H0, H1, H2, H3, H4, H5⟩, HT, HX, HQ, Hk⟩
    iapply (part1_first c q i xM hx qM hq oM ho h2 h3 T X Q S.a0 S.a1 S.a2 K)
    isplitl [HT]; · iexact HT
    isplitl [HX]; · iexact HX
    isplitl [HQ]; · iexact HQ
    isplitl [H0]; · iexact H0
    isplitl [H1]; · iexact H1
    isplitl [H2]; · iexact H2
    iintro ⟨HT, HX, HQ, H0, H1, H2⟩
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [HT]; · iexact HT
    isplitl [HX]; · iexact HX
    iexact HQ
  · rw [if_neg h3]
    iintro ⟨H, HT, HX, HQ, Hk⟩
    iapply (part1_other c q i xM hx qM hq oM ho h2 h3 T K)
    isplitl [HT]; · iexact HT
    iintro HT
    iapply Hk
    isplitl [H]; · iexact H
    isplitl [HT]; · iexact HT
    isplitl [HX]; · iexact HX
    iexact HQ

/-- One point of the grid, from any state: the next state, the inputs and the table as they were, and the output block of the point. -/
theorem body_run (T : S8.Idx → Elt F .i32)
    (X : S1x512x256.Idx → Elt F .f32) (Q : S1x16x512.Idx → Elt F .f32) (O : S1x128x512.Idx → Elt F .f32) (S : St F) (K : PUnit → sProp 𝕄) :
    iprop(held c S ∗ owns (c : Thread nD τ) tbM q T ∗ owns (c : Thread nD τ) xM fullShare X ∗ owns (c : Thread nD τ) qM fullShare Q ∗ owns (c : Thread nD τ) oM fullShare O
        ∗ (iprop(held c (stNext i T X Q S) ∗ owns (c : Thread nD τ) tbM q T ∗ owns (c : Thread nD τ) xM fullShare X ∗ owns (c : Thread nD τ) qM fullShare Q
            ∗ owns (c : Thread nD τ) oM fullShare (outNext i (stNext i T X Q S) O)) -∗ K ⟨⟩))
      ⊢ wp frame (wpE (defs₀ (F := F)) Variants.none c none) Set.univ
          (cc0__adj_kernel (F := F) i tbM (Memref.isWhole_whole _) xM hx qM hq oM ho s0M (Memref.isWhole_whole _) s1M (Memref.isWhole_whole _)
            s2M (Memref.isWhole_whole _) s3M (Memref.isWhole_whole _) s4M (Memref.isWhole_whole _) s5M (Memref.isWhole_whole _)) K := by
  rw [body_pieces]
  simp only [wp_bind]
  iintro ⟨HS, HT, HX, HQ, HO, Hk⟩
  iapply (head_run c i S _)
  isplitl [HS]; · iexact HS
  iintro HS
  have hmid : ∀ K' : PUnit → sProp 𝕄, iprop(held c (stHead i S) ∗ owns (c : Thread nD τ) tbM q T ∗ owns (c : Thread nD τ) xM fullShare X ∗ owns (c : Thread nD τ) qM fullShare Q
        ∗ (iprop(held c (stNext i T X Q S) ∗ owns (c : Thread nD τ) tbM q T ∗ owns (c : Thread nD τ) xM fullShare X ∗ owns (c : Thread nD τ) qM fullShare Q) -∗ K' ⟨⟩))
      ⊢ wp frame (wpE (defs₀ (F := F)) Variants.none c none) Set.univ
          (if h2 : k0_cond2 i = 1#1 then part1 (F := F) i xM hx qM hq oM ho h2 >>= tilePart i xM hx qM hq oM ho h2 else pure ⟨⟩) K' := by
    intro K'
    unfold stNext
    by_cases h2 : k0_cond2 i = 1#1
    · rw [dif_pos h2, dif_pos h2, wp_bind]
      iintro ⟨HS, HT, HX, HQ, Hk⟩
      iapply (load_run c q i xM hx qM hq oM ho h2 T X Q (stHead i S) _)
      isplitl [HS]; · iexact HS
      isplitl [HT]; · iexact HT
      isplitl [HX]; · iexact HX
      isplitl [HQ]; · iexact HQ
      iintro ⟨HS, HT, HX, HQ⟩
      unfold held
      icases HS with ⟨H0, H1, H2, H3, H4, H5⟩
      iapply (tile_run c i xM hx qM hq oM ho h2 _ _ _ _ _ _ _ K')
      isplitl [H0]; · iexact H0
      isplitl [H1]; · iexact H1
      isplitl [H2]; · iexact H2
      isplitl [H3]; · iexact H3
      isplitl [H4]; · iexact H4
      isplitl [H5]; · iexact H5
      iintro HS
      iapply Hk
      isplitl [HS]; · iexact HS
      isplitl [HT]; · iexact HT
      isplitl [HX]; · iexact HX
      iexact HQ
    · rw [dif_neg h2, dif_neg h2]
      iintro ⟨HS, HT, HX, HQ, Hk⟩
      sl_step
      iapply Hk
      isplitl [HS]; · iexact HS
      isplitl [HT]; · iexact HT
      isplitl [HX]; · iexact HX
      iexact HQ
  iapply (hmid _)
  isplitl [HS]; · iexact HS
  isplitl [HT]; · iexact HT
  isplitl [HX]; · iexact HX
  isplitl [HQ]; · iexact HQ
  iintro ⟨HS, HT, HX, HQ⟩
  have hlast : ∀ K' : PUnit → sProp 𝕄, iprop(held c (stNext i T X Q S) ∗ owns (c : Thread nD τ) oM fullShare O
        ∗ (iprop(held c (stNext i T X Q S) ∗ owns (c : Thread nD τ) oM fullShare (outNext i (stNext i T X Q S) O)) -∗ K' ⟨⟩))
      ⊢ wp frame (wpE (defs₀ (F := F)) Variants.none c none) Set.univ
          (if h4 : k0_cond4 i = 1#1 then outPart (F := F) i xM hx qM hq oM ho h4 else pure ⟨⟩) K' := by
    intro K'
    generalize stNext i T X Q S = S'
    unfold outNext
    by_cases h4 : k0_cond4 i = 1#1
    · rw [dif_pos h4, dif_pos h4]
      unfold held
      iintro ⟨⟨H0, H1, H2, H3, H4, H5⟩, HO, Hk⟩
      iapply (out_run c i xM hx qM hq oM ho h4 _ _ _ _ K')
      isplitl [H3]; · iexact H3
      isplitl [H4]; · iexact H4
      isplitl [H5]; · iexact H5
      isplitl [HO]; · iexact HO
      iintro ⟨H3, H4, H5, HO⟩
      iapply Hk
      isplitl [H0 H1 H2 H3 H4 H5]
      · isplitl [H0]; · iexact H0
        isplitl [H1]; · iexact H1
        isplitl [H2]; · iexact H2
        isplitl [H3]; · iexact H3
        isplitl [H4]; · iexact H4
        iexact H5
      iexact HO
    · rw [dif_neg h4, dif_neg h4]
      iintro ⟨HS, HO, Hk⟩
      sl_step
      iapply Hk
      isplitl [HS]; · iexact HS
      iexact HO
  iapply (hlast _)
  isplitl [HS]; · iexact HS
  isplitl [HO]; · iexact HO
  iintro ⟨HS, HO⟩
  sl_step
  iapply Hk
  isplitl [HS]; · iexact HS
  isplitl [HT]; · iexact HT
  isplitl [HX]; · iexact HX
  isplitl [HQ]; · iexact HQ
  iexact HO

end Triples

end Cert.KernelIdeal.Hand
end
-- ==== Proof.IdealLaunch.lean ====
/- The launch of the idealized kernel: the pipeline's proof data over any invariant of the scratches and any relation of the
   output blocks that the body's step keeps, the body obligation from the body's triple, and the run of the whole program. -/
module

public import proofs.«01_k».proof.Proof.IdealBody
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations write none of the buffers outside the four they name. -/
theorem V_of_ne (c : Dev nD) (b : Ref sig .tc) (h0 : b ≠ main_v0) (h1 : b ≠ main_cst) (h2 : b ≠ main_v1) (h3 : b ≠ main_v2) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3⟩))

/-! ## The proof data -/

/-- The index maps read nothing of the table, so every table is admissible. -/
theorem ok_any (pf : pre0.Contents (Elt F)) : ok0 pf := by unfold ok0; trivial

/-- The prefetched table as the region reads it. -/
def adm (p : Fin 1) : (pcfgs (F := F) p).Adm := ⟨fun k => V m (0 : Dev nD) (pre0.ref k), ok_any (F := F) (fun k => V m (0 : Dev nD) (pre0.ref k))⟩

/-- The dialogue lengths, as the body reads them. -/
def tblT : S8.Idx → Elt F .i32 := V m (0 : Dev nD) main_arg1

/-- What the fetch at point `t` brings of input window `w`. -/
def iblk (c : Dev nD) (w : Fin 3) (t : Fin grid0.N) : ((cfg0 (adm m 0)).win w).block.Idx → Elt F ((cfg0 (adm m 0)).win w).elt :=
  (((cfg0 (adm m 0)).win w).blk t).view.read (Elt F) (V m c (Pipeline.arrRef spec0 w))

variable (Inv : Dev nD → ℕ → St F → Prop) (Out : Dev nD → ℕ → (S1x128x512.Idx → Elt F .f32) → Prop)

/-- What each point leaves in the windows' staging buffers: the inputs as found, the output in the relation. -/
def aft (c : Dev nD) : (w : Fin 3) → Fin grid0.N → (Y X : (spec0 w).block.Idx → Elt F (spec0 w).elt) → Prop :=
  fun | 0 => fun _ Y X => X = Y
      | 1 => fun _ Y X => X = Y
      | 2 => fun t _ X => Out c t.val X
      | ⟨_ + 3, h⟩ => absurd h (Nat.not_lt.2 (Nat.le_add_left _ _))

/-- The proof data of core `c`. -/
def rdat (c : Dev nD) : RDat τ (Elt F) Unit ℕ (UR sig nD τ) ℕ (cfg0 (adm m 0)) c where
  A w := V m c (Pipeline.arrRef spec0 w)
  after := aft Out c
  Φ t := iprop((∃ S, ⌜Inv c t.val S⌝ ∗ held c S) ∗ (∃ r, prngReg c r) ∗ Pipeline.ΦT pre0 (adm m 0).1 c)
  q _ := fullShare
  owed _ := 0

/-- The body keeps the invariant and the output relation. -/
def Keeps : Prop :=
  ∀ (c : Dev nD) (t : Fin grid0.N) (S : St F) (O : S1x128x512.Idx → Elt F .f32), Inv c t.val S →
    Inv c (t.val + 1) (stNext (grid0.coords t) (tblT m) (iblk m c 0 t) (iblk m c 1 t) S)
    ∧ Out c t.val (outNext (grid0.coords t) (stNext (grid0.coords t) (tblT m) (iblk m c 0 t) (iblk m c 1 t) S) O)

/-- The table's half is the body's table memref owned at the table. -/
theorem table_owned (c : Dev nD) : (Pipeline.ΦT pre0 (adm m 0).1 c : sProp 𝕄) = owns (c : Thread nD τ) tbM fullShare.right (tblT m) := by
  unfold Pipeline.ΦT Pipeline.prefHeld
  haveI : Subsingleton (Fin pre0.K) := inferInstanceAs (Subsingleton (Fin 1))
  rw [bigSep_univ_of_subsingleton (0 : Fin 1), tbM, owns_whole]; rfl

/-- The six scratch buffers, each whole at some contents, are the scratches held at some state. -/
theorem scratch_held (c : Dev nD) :
    (Pipeline.scopedRest (Ix := Unit) (Name := ℕ) (U := UR sig nD τ) (Lvl := ℕ) (Val := Elt F) spec0 c : sProp 𝕄)
      ⊢ iprop(∃ S : St F, held c S) := by
  rw [scopedRest0_eq]
  iintro ⟨⟨%f0, H0⟩, ⟨%f1, H1⟩, ⟨%f2, H2⟩, ⟨%f3, H3⟩, ⟨%f4, H4⟩, ⟨%f5, H5⟩⟩
  iexists (⟨f0, f1, f2, f3, f4, f5⟩ : St F)
  unfold held
  simp only [s0M, s1M, s2M, s3M, s4M, s5M, owns_whole]
  isplitl [H0]; · iexact H0
  isplitl [H1]; · iexact H1
  isplitl [H2]; · iexact H2
  isplitl [H3]; · iexact H3
  isplitl [H4]; · iexact H4
  iexact H5

/-- And back. -/
theorem held_scratch (c : Dev nD) (S : St F) :
    held c S ⊢ (Pipeline.scopedRest (Ix := Unit) (Name := ℕ) (U := UR sig nD τ) (Lvl := ℕ) (Val := Elt F) spec0 c : sProp 𝕄) := by
  rw [scopedRest0_eq]
  unfold held
  simp only [s0M, s1M, s2M, s3M, s4M, s5M, owns_whole]
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-! ## The body obligation -/

/-- The windows' staging memrefs at the point, and the body's program there. -/
abbrev stg (w : Fin 3) (t : Fin grid0.N) := ((cfg0 (adm (F := F) m 0)).win w).stage ((cfg0 (adm m 0)).slots t w)
abbrev bodyAt (t : Fin grid0.N) :=
  cc0__adj_kernel (F := F) (grid0.coords t) tbM (Memref.isWhole_whole _) (stg m 0 t) (hstage0_0 _) (stg m 1 t) (hstage0_1 _)
    (stg m 2 t) (hstage0_2 _) s0M (Memref.isWhole_whole _) s1M (Memref.isWhole_whole _) s2M (Memref.isWhole_whole _)
    s3M (Memref.isWhole_whole _) s4M (Memref.isWhole_whole _) s5M (Memref.isWhole_whole _)

theorem defs₀_row (t : Fin grid0.N) :
    defs₀ (F := F) .tc (cfg0 (adm m 0)).body ((cfg0 (adm m 0)).bodyArgs t ((cfg0 (adm m 0)).slots t)) = bodyAt m t := by
  unfold defs₀; rw [Defs.onTc_tc]

/-- What the body finds in the two input windows is the arrays' blocks. -/
theorem finds_0 (c : Dev nD) (t : Fin grid0.N) (Y) (h : (rdat m Inv Out c).Finds (0 : Fin 3) t Y) : Y = iblk m c 0 t := by
  obtain ⟨d, hd⟩ := Pipeline.RDat.finds_in_eq_fetched (rdat m Inv Out c) (0 : Fin 3) rfl (by intros; rfl) (by intro t Y X h; exact h) t Y h
  rw [hd]; rfl
theorem finds_1 (c : Dev nD) (t : Fin grid0.N) (Y) (h : (rdat m Inv Out c).Finds (1 : Fin 3) t Y) : Y = iblk m c 1 t := by
  obtain ⟨d, hd⟩ := Pipeline.RDat.finds_in_eq_fetched (rdat m Inv Out c) (1 : Fin 3) rfl (by intros; rfl) (by intro t Y X h; exact h) t Y h
  rw [hd]; rfl

/-- The body at the point: from the state found, the body's triple, to the state left. -/
theorem sound_body (hk : Keeps m Inv Out) (c : Dev nD) (t : Fin grid0.N)
    (X : S1x512x256.Idx → Elt F .f32) (Q : S1x16x512.Idx → Elt F .f32) (O : S1x128x512.Idx → Elt F .f32)
    (hX : X = iblk m c 0 t) (hQ : Q = iblk m c 1 t) :
    iprop((rdat m Inv Out c).Φ t.castSucc ∗ (rdat m Inv Out c).owesAt () t.castSucc
        ∗ owns (c : Thread nD τ) (stg m 0 t) fullShare X ∗ owns (c : Thread nD τ) (stg m 1 t) fullShare Q
        ∗ owns (c : Thread nD τ) (stg m 2 t) fullShare O)
      ⊢ wp frame (wpE (defs₀ (F := F)) Variants.none c none) Set.univ (bodyAt m t) fun _ =>
        iprop((rdat m Inv Out c).Φ t.succ ∗ (rdat m Inv Out c).owesAt () t.succ
          ∗ (∃ X', ⌜X' = X⌝ ∗ owns (c : Thread nD τ) (stg m 0 t) fullShare X')
          ∗ (∃ Q', ⌜Q' = Q⌝ ∗ owns (c : Thread nD τ) (stg m 1 t) fullShare Q')
          ∗ (∃ O', ⌜Out c t.val O'⌝ ∗ owns (c : Thread nD τ) (stg m 2 t) fullShare O')) := by
  rw [show (rdat m Inv Out c).owesAt () t.succ = (rdat m Inv Out c).owesAt () t.castSucc from rfl,
    show (rdat m Inv Out c).Φ t.castSucc = iprop((∃ S, ⌜Inv c t.val S⌝ ∗ held c S) ∗ (∃ r, prngReg c r) ∗ Pipeline.ΦT pre0 (adm m 0).1 c) from rfl,
    show (rdat m Inv Out c).Φ t.succ = iprop((∃ S, ⌜Inv c (t.val + 1) S⌝ ∗ held c S) ∗ (∃ r, prngReg c r) ∗ Pipeline.ΦT pre0 (adm m 0).1 c) from rfl,
    table_owned]
  iintro ⟨⟨⟨%S, %hS, HS⟩, Hg, HT⟩, HO, HX, HQ, HZ⟩
  have hstep := hk c t S O hS
  iapply (body_run c fullShare.right (grid0.coords t) (stg m 0 t) (hstage0_0 _) (stg m 1 t) (hstage0_1 _) (stg m 2 t) (hstage0_2 _) (tblT m) X Q O S _)
  isplitl [HS]; · iexact HS
  isplitl [HT]; · iexact HT
  isplitl [HX]; · iexact HX
  isplitl [HQ]; · iexact HQ
  isplitl [HZ]; · iexact HZ
  iintro ⟨HS, HT, HX, HQ, HZ⟩
  isplitl [HS Hg HT]
  · isplitl [HS]
    · iexists _; isplitr; swap; · iexact HS
      ipureintro; subst hX hQ; exact hstep.1
    isplitl [Hg]; · iexact Hg
    iexact HT
  isplitl [HO]; · iexact HO
  isplitl [HX]
  · iexists X; isplitr; · ipureintro; rfl
    iexact HX
  isplitl [HQ]
  · iexists Q; isplitr; · ipureintro; rfl
    iexact HQ
  iexists _; isplitr; swap; · iexact HZ
  ipureintro; subst hX hQ; exact hstep.2

/-- The library's body obligation. -/
theorem body_obligation (hk : Keeps m Inv Out) (c : Dev nD) :
    (rdat m Inv Out c).BodyObligation (defs₀ (F := F)) Variants.none () Set.univ := fun t Y hY => by
  rw [bigSep_W0, bigSep_W0, defs₀_row]
  exact triple_restated (sound_body m Inv Out hk c t (Y (0 : Fin 3)) (Y (1 : Fin 3)) (Y (2 : Fin 3))
    (finds_0 m Inv Out c t _ (hY (0 : Fin 3))) (finds_1 m Inv Out c t _ (hY (1 : Fin 3)))) rfl .rfl fun _ => .rfl

/-! ## The run -/

set_option backward.isDefEq.respectTransparency.types false in
/-- From any memory with zero counters every weakly fair execution of @main terminates; every final state has the windows' arrays
    as the relation says, every other unscoped buffer as the region found it, and every semaphore counter at zero. -/
theorem run_main (hk : Keeps m Inv Out) (h0 : ∀ c S, Inv c 0 S) :
    θ_run defs (onTc (τ := τ) (main (F := F))) (s₀ m ρ)
      (fun r => Pipeline.RDat.FramePost (cfg0 (adm m 0)) (rdat m Inv Out) (V m) r ∧ r.2.sem = fun _ => 0) :=
  Pipeline.RDat.θ_run_frameP_track (Q' := _) pcfgs (adm m) (0 : Fin 1) launch0 defs₀ Variants.none (rdat m Inv Out) m ρ main
    (hbody := body_obligation m Inv Out hk) (hshare := fun c => (rdat m Inv Out c).share_full fun _ => rfl)
    (howed := fun _ _ => rfl) (V := V m) (hmain := hmain m Variants.none) (hA := fun _ _ => rfl)
    (hpf := fun c k => by obtain rfl : c = 0 := Subsingleton.elim _ _; rfl)
    (hin := fun c => by
      show _ ⊢ iprop((∃ S, ⌜Inv c 0 S⌝ ∗ held c S) ∗ (∃ r, prngReg c r) ∗ Pipeline.ΦT pre0 (adm m 0).1 c)
      unfold Pipeline.ΦA
      iintro ⟨⟨HR, Hg⟩, HT⟩
      isplitl [HR]
      · ihave HR := (scratch_held (F := F) c) $$ [HR]; · iexact HR
        icases HR with ⟨%S, HS⟩
        iexists S; isplitr; · ipureintro; exact h0 c S
        iexact HS
      isplitl [Hg]; · iexact Hg
      iexact HT)
    (hout := fun c => by
      show iprop((∃ S, ⌜Inv c _ S⌝ ∗ held c S) ∗ (∃ r, prngReg c r) ∗ Pipeline.ΦT pre0 (adm m 0).1 c) ⊢ _
      unfold Pipeline.ΦA
      iintro ⟨⟨%S, -, HS⟩, Hg, -⟩
      isplitl [HS]
      · iapply (held_scratch (F := F) c S); iexact HS
      iexact Hg)

/-- A buffer other than the three windows' is no window's array. -/
theorem arr_ne {b : Ref sig .tc} (w : Fin 3) (h0 : main_arg0 ≠ b) (h1 : main_v2 ≠ b) (h2 : main_v3 ≠ b) :
    ((cfg0 (adm m 0)).spec w).arr.view.ref ≠ b := by
  fin_cases w
  exacts [h0, h1, h2]

/-- The argument arrays are unchanged in every final state of the region: the first is a window that is only read, the table and the
    queries are buffers no window names. -/
theorem args_kept {r : PUnit × MemSt nD τ sig (Elt F)} (h : Pipeline.RDat.FramePost (cfg0 (adm m 0)) (rdat m Inv Out) (V m) r)
    (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(Pipeline.RDat.FramePost.arr_in h c 0 rfl).trans (V_of_ne m c main_arg0 (by decide) (by decide) (by decide) (by decide)),
   ((h c).2 main_arg1 (Pipeline.mem_restRefs_of main_arg1 (by decide) fun w => arr_ne m w (by decide) (by decide) (by decide))).trans
    (V_of_ne m c main_arg1 (by decide) (by decide) (by decide) (by decide)),
   ((h c).2 main_arg2 (Pipeline.mem_restRefs_of main_arg2 (by decide) fun w => arr_ne m w (by decide) (by decide) (by decide))).trans
    (V_of_ne m c main_arg2 (by decide) (by decide) (by decide) (by decide))⟩

/-- Every execution ends with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m _ _ h.1, h.2⟩)
    (run_main m ρ (fun _ _ _ => True) (fun _ _ _ => True) (fun _ _ _ _ _ => ⟨trivial, trivial⟩) fun _ _ => trivial)

end Cert.KernelIdeal.Hand
end
-- ==== Proof.Spec.lean ====
/-
  The mathematics both programs compute, over the extended reals and over plain index functions, and the facts about it
  that neither program's text is needed for. No program is named here.
-/
module

public import Idealize.ShloMosaic.Lib.ValueIdx
public import Idealize.ShloMosaic.PureOps.Ideal

@[expose] public section

noncomputable section

namespace Cert.Spec

open Idealize.ShloMosaic Idealize.ShloMosaic.ValueIdx

/-- The features, one row of 256 per batch and utterance. -/
abbrev Feat := (⟨3, ![8, 512, 256]⟩ : Shape).Idx → EReal
/-- The length of each batch's dialogue. -/
abbrev Len := (⟨1, ![8]⟩ : Shape).Idx → BitVec 32
/-- The speakers' masks, per utterance, batch and speaker. -/
abbrev Mask := (⟨3, ![512, 8, 9]⟩ : Shape).Idx → EReal

/-! ## Extended reals that are real -/

/-- The value is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sum {ι : Type} (s : Finset ι) (f : ι → EReal) (h : ∀ i ∈ s, IsR (f i)) : IsR (∑ i ∈ s, f i) :=
  Finset.sum_induction f IsR (fun _ _ => IsR.add) ⟨0, rfl⟩ h

/-- One where the statement holds, zero elsewhere. -/
def ind (p : Prop) [Decidable p] : EReal := if p then 1 else 0

theorem ind_real (p : Prop) [Decidable p] : ind p = ((if p then 1 else 0 : ℝ) : EReal) := by
  unfold ind; split <;> rfl

/-- A sum of reals, taken as extended reals, is the reals' sum. -/
theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

theorem ind_isR (p : Prop) [Decidable p] : IsR (ind p) := ⟨_, ind_real p⟩

theorem ind_nonneg (p : Prop) [Decidable p] : 0 ≤ ind p := by unfold ind; split <;> simp

theorem ind_congr {p q : Prop} [Decidable p] [Decidable q] (h : p ↔ q) : ind p = ind q := by
  unfold ind; simp only [h]

/-! ## The normalized rows -/

/-- The least norm a row is divided by: the f32 nearest 1e-8, exactly. -/
def eps : ℝ := 11258999 / 1125899906842624

/-- Its square. -/
def eps2 : ℝ := 126765058482001 / 1267650600228229401496703205376

theorem eps_pos : 0 < eps := by unfold eps; norm_num
theorem eps2_pos : 0 < eps2 := by unfold eps2; norm_num
theorem sqrt_eps2 : Real.sqrt eps2 = eps := by
  rw [show eps2 = eps * eps by unfold eps eps2; norm_num]; exact Real.sqrt_mul_self eps_pos.le

/-- The squared norm of a row. -/
def sq (x : Feat) (b : Fin 8) (i : Fin 512) : EReal := ∑ k : Fin 256, x (ix3 b i k) * x (ix3 b i k)

/-- The normalized row. -/
def xn (x : Feat) (b : Fin 8) (i : Fin 512) (k : Fin 256) : EReal :=
  x (ix3 b i k) * Ideal.rsqrt (max (sq x b i) (eps2 : EReal))

theorem mul_self_nonneg' (a : EReal) : 0 ≤ a * a := by
  induction a with
  | bot => simp
  | top => simp
  | coe r => rw [← EReal.coe_mul]; exact EReal.coe_nonneg.2 (mul_self_nonneg r)

theorem sq_nonneg' (x : Feat) (b : Fin 8) (i : Fin 512) : 0 ≤ sq x b i :=
  Finset.sum_nonneg fun _ _ => mul_self_nonneg' _

/-- A squared norm is infinite or a nonnegative real. -/
theorem sq_cases (x : Feat) (b : Fin 8) (i : Fin 512) : sq x b i = ⊤ ∨ ∃ r : ℝ, 0 ≤ r ∧ sq x b i = (r : EReal) := by
  have h := sq_nonneg' x b i
  generalize sq x b i = s at h ⊢
  induction s with
  | bot => simp at h
  | top => exact .inl rfl
  | coe r => exact .inr ⟨r, EReal.coe_nonneg.1 h, rfl⟩

/-- The reciprocal norm of a row with a real squared norm. -/
theorem rsqrt_max {r : ℝ} (h : 0 ≤ r) : Ideal.rsqrt (max (r : EReal) (eps2 : EReal)) = ((max (Real.sqrt r) eps)⁻¹ : ℝ) := by
  have hp : 0 < max r eps2 := lt_max_of_lt_right eps2_pos
  rw [← EReal.coe_strictMono.monotone.map_max, Ideal.rsqrt_coe, if_neg hp.not_gt, if_neg hp.ne', ← sqrt_eps2,
    Real.sqrt_monotone.map_max]

theorem xn_isR (x : Feat) (b : Fin 8) (i : Fin 512) (k : Fin 256) : IsR (xn x b i k) := by
  rcases sq_cases x b i with h | ⟨r, hr, h⟩
  · refine ⟨0, ?_⟩
    rw [xn, h, max_eq_left le_top, Ideal.rsqrt_top, mul_zero]; rfl
  · rw [xn, h, rsqrt_max hr]
    refine IsR.mul ?_ ⟨_, rfl⟩
    have hk : x (ix3 b i k) * x (ix3 b i k) ≤ (r : EReal) := h ▸
      Finset.single_le_sum (f := fun k => x (ix3 b i k) * x (ix3 b i k)) (fun _ _ => mul_self_nonneg' _) (Finset.mem_univ k)
    generalize x (ix3 b i k) = a at hk
    induction a with
    | bot => simp at hk
    | top => simp at hk
    | coe r => exact ⟨r, rfl⟩

/-- A row over the larger of its norm and the least norm is the normalized row. -/
theorem div_norm (x : Feat) (b : Fin 8) (i : Fin 512) (k : Fin 256) :
    Ideal.div (x (ix3 b i k)) (max (Ideal.sqrt (sq x b i)) (eps : EReal)) = xn x b i k := by
  rcases sq_cases x b i with h | ⟨r, hr, h⟩
  · rw [xn, h, max_eq_left le_top, Ideal.rsqrt_top, mul_zero, Ideal.sqrt_top, max_eq_left le_top, Ideal.div,
      if_neg EReal.top_ne_zero, EReal.inv_top, mul_zero]
  · rw [xn, h, rsqrt_max hr, Ideal.sqrt_coe, if_neg hr.not_gt, ← EReal.coe_strictMono.monotone.map_max,
      Ideal.div_coe (lt_max_of_lt_right eps_pos).ne', one_div]

/-- The cosine of two rows. -/
def dot (x : Feat) (b : Fin 8) (i j : Fin 512) : EReal := ∑ k : Fin 256, xn x b i k * xn x b j k

theorem dot_isR (x : Feat) (b : Fin 8) (i j : Fin 512) : IsR (dot x b i j) :=
  IsR.sum _ _ fun _ _ => (xn_isR ..).mul (xn_isR ..)

/-! ## The weight of a cosine -/

/-- The polynomial's coefficients over π. -/
def A0 : ℝ := 1963411 / 1250000 * Real.pi⁻¹
/-- See `A0`. -/
def A1 : ℝ := -265143 / 1250000 * Real.pi⁻¹
/-- See `A0`. -/
def A2 : ℝ := 74261 / 1000000 * Real.pi⁻¹
/-- See `A0`. -/
def A3 : ℝ := -187293 / 10000000 * Real.pi⁻¹

/-- The arccosine of a magnitude over π, by the polynomial. -/
def arc (a : EReal) : EReal := Ideal.sqrt (max (1 - a) 0) * ((((A3 : EReal) * a + A2) * a + A1) * a + A0)

/-- One less the arccosine of a cosine over π. -/
def wgt (c : EReal) : EReal := if 0 ≤ c then 1 - arc (max c (-c)) else arc (max c (-c))

/-- The same polynomial on the reals, not divided by π. -/
def poly (a : ℝ) : ℝ := 1.5707288 - 0.2121144 * a + 0.074261 * (a * a) - 0.0187293 * (a * a * a)

theorem arc_coe (a : ℝ) : arc a = ((Real.sqrt (max (1 - a) 0) * poly a * Real.pi⁻¹ : ℝ) : EReal) := by
  have h1 : max (1 - (a : EReal)) 0 = ((max (1 - a) 0 : ℝ) : EReal) := by
    rw [EReal.coe_strictMono.monotone.map_max, EReal.coe_sub]; rfl
  rw [arc, h1, Ideal.sqrt_coe, if_neg (not_lt.2 (le_max_right _ _))]
  simp only [← EReal.coe_mul, ← EReal.coe_add, EReal.coe_eq_coe_iff, poly, A0, A1, A2, A3]
  ring

theorem wgt_coe (c : ℝ) : wgt c = ((if 0 ≤ c then 1 - Real.sqrt (max (1 - |c|) 0) * poly |c| * Real.pi⁻¹
    else Real.sqrt (max (1 - |c|) 0) * poly |c| * Real.pi⁻¹ : ℝ) : EReal) := by
  have ha : max (c : EReal) (-c) = ((|c| : ℝ) : EReal) := by
    rw [abs, ← EReal.coe_neg]; exact (EReal.coe_strictMono.monotone.map_max).symm
  rw [wgt, ha, arc_coe]
  by_cases h : 0 ≤ c
  · rw [if_pos (EReal.coe_nonneg.2 h), if_pos h, EReal.coe_sub]; rfl
  · rw [if_neg (fun h' => h (EReal.coe_nonneg.1 h')), if_neg h]

/-- The arccosine over π lies between zero and one. -/
theorem arc_bounds {a : ℝ} (h0 : 0 ≤ a) :
    0 ≤ Real.sqrt (max (1 - a) 0) * poly a * Real.pi⁻¹ ∧ Real.sqrt (max (1 - a) 0) * poly a * Real.pi⁻¹ ≤ 1 := by
  rcases le_total 1 a with h | h
  · rw [max_eq_right (by linarith)]; simp
  · have hs : Real.sqrt (max (1 - a) 0) ≤ 1 := by
      rw [max_eq_left (by linarith)]; exact Real.sqrt_le_one.2 (by linarith)
    have hs0 := Real.sqrt_nonneg (max (1 - a) 0)
    have ha2 : a * a ≤ 1 := by nlinarith
    have ha3 : a * a * a ≤ 1 := by nlinarith
    have ha20 : 0 ≤ a * a := by positivity
    have ha30 : 0 ≤ a * a * a := by positivity
    have hp0 : 0 ≤ poly a := by unfold poly; linarith
    have hp1 : poly a ≤ 2 := by unfold poly; linarith
    have hpi := Real.two_le_pi
    refine ⟨by positivity, ?_⟩
    rw [mul_inv_le_iff₀ Real.pi_pos]
    nlinarith

theorem wgt_real {c : EReal} (h : IsR c) : ∃ w : ℝ, 0 ≤ w ∧ wgt c = w := by
  obtain ⟨c, rfl⟩ := h
  refine ⟨_, ?_, wgt_coe c⟩
  have := arc_bounds (abs_nonneg c)
  split <;> linarith [this.1, this.2]

/-- The reference's arccosine of a clipped cosine, on the reals. -/
def acosR (c : ℝ) : ℝ := if 0 ≤ c then Real.sqrt (1 - |c|) * poly |c| else Real.pi - Real.sqrt (1 - |c|) * poly |c|

/-- One less the reference's arccosine over π is the weight: clipping to [-1, 1] changes no weight. -/
theorem wgt_clip (c : ℝ) : ((1 - acosR (min (max c (-1)) 1) * (1 / Real.pi) : ℝ) : EReal) = wgt c := by
  have hpi := Real.pi_pos.ne'
  rw [wgt_coe, EReal.coe_eq_coe_iff]
  rcases le_total c (-1) with h | h
  · rw [max_eq_right h, min_eq_left (by norm_num), if_neg (by linarith), max_eq_right (by rw [abs_of_neg (by linarith)]; linarith)]
    rw [acosR, if_neg (by norm_num)]
    simp [hpi]
  rcases le_total 1 c with h' | h'
  · rw [max_eq_left h, min_eq_right h', if_pos (by linarith), max_eq_right (by rw [abs_of_pos (by linarith)]; linarith)]
    simp [acosR]
  · rw [max_eq_left h, min_eq_left h', max_eq_left (by linarith [abs_le.2 ⟨h, h'⟩]), acosR]
    split
    · rw [one_div]
    · rw [sub_mul, mul_one_div_cancel hpi, one_div]; ring

/-! ## The window and the speakers -/

/-- Two utterances at most 15 apart, both before the dialogue's end. -/
def InWin (n : Len) (b : Fin 8) (i j : Fin 512) : Prop :=
  |(i.val : ℤ) - j.val| ≤ 15 ∧ (i.val : ℤ) < (n (ix1 b)).toInt ∧ (j.val : ℤ) < (n (ix1 b)).toInt

instance (n : Len) (b : Fin 8) (i j : Fin 512) : Decidable (InWin n b i j) := by unfold InWin; infer_instance

/-- The speaker is the first one of largest mask. -/
def IsFirstMax {N : ℕ} (f : Fin N → EReal) (s : Fin N) : Prop := (∀ t, f t ≤ f s) ∧ ∀ t < s, f t < f s

theorem IsFirstMax.unique {N : ℕ} {f : Fin N → EReal} {s t : Fin N} (hs : IsFirstMax f s) (ht : IsFirstMax f t) : s = t := by
  rcases lt_trichotomy s t with h | h | h
  · exact absurd (hs.1 t) (not_le.2 (ht.2 s h))
  · exact h
  · exact absurd (ht.1 s) (not_le.2 (hs.2 t h))

theorem exists_firstMax (f : Fin 9 → EReal) : ∃ s, IsFirstMax f s := by
  obtain ⟨m, -, hm⟩ := Finset.exists_max_image Finset.univ f ⟨0, Finset.mem_univ 0⟩
  have hne : (Finset.univ.filter fun s => f m ≤ f s).Nonempty := ⟨m, by simp⟩
  refine ⟨Finset.min' _ hne, fun t => ?_, fun t ht => ?_⟩
  · exact (hm t (Finset.mem_univ t)).trans (Finset.mem_filter.1 (Finset.min'_mem _ hne)).2
  · refine lt_of_lt_of_le (not_le.1 fun h => ?_) (Finset.mem_filter.1 (Finset.min'_mem _ hne)).2
    exact absurd (Finset.min'_le _ t (by simpa using h)) (not_le.2 ht)

/-- The speaker of an utterance. -/
def spk (q : Mask) (b : Fin 8) (i : Fin 512) : Fin 9 := (exists_firstMax fun s => q (ix3 i b s)).choose

theorem spk_spec (q : Mask) (b : Fin 8) (i : Fin 512) : IsFirstMax (fun s => q (ix3 i b s)) (spk q b i) :=
  (exists_firstMax _).choose_spec

/-- The same speaker's utterances within the window. -/
def Same (n : Len) (q : Mask) (b : Fin 8) (i j : Fin 512) : Prop := InWin n b i j ∧ spk q b i = spk q b j

instance (n : Len) (q : Mask) (b : Fin 8) (i j : Fin 512) : Decidable (Same n q b i j) := by unfold Same; infer_instance

/-- How many of the same speaker's utterances the window holds. -/
def cnt (n : Len) (q : Mask) (b : Fin 8) (i : Fin 512) : EReal := ∑ j : Fin 512, ind (Same n q b i j)

theorem cnt_eq (n : Len) (q : Mask) (b : Fin 8) (i : Fin 512) :
    cnt n q b i = (((Finset.univ.filter (Same n q b i)).card : ℝ) : EReal) := by
  have : cnt n q b i = ((∑ j : Fin 512, (if Same n q b i j then 1 else 0 : ℝ) : ℝ) : EReal) := by
    rw [cnt, coe_sum]; exact Finset.sum_congr rfl fun j _ => ind_real _
  rw [this, Finset.sum_boole]

/-! ## The adjacency -/

/-- The adjacency of two utterances, before the degrees' scaling. -/
def adj (x : Feat) (n : Len) (q : Mask) (b : Fin 8) (i j : Fin 512) : EReal :=
  wgt (dot x b i j) * (ind (InWin n b i j) + ind (Same n q b i j) * ind (1 < cnt n q b i))

/-- The degree of an utterance. -/
def deg (x : Feat) (n : Len) (q : Mask) (b : Fin 8) (i : Fin 512) : EReal := ∑ j : Fin 512, adj x n q b i j

/-- The reciprocal root of the degree, a degree of zero replaced by one. -/
def dinv (x : Feat) (n : Len) (q : Mask) (b : Fin 8) (i : Fin 512) : EReal :=
  Ideal.rsqrt (if deg x n q b i = 0 then 1 else deg x n q b i)

/-- The scaled adjacency: the result. -/
def out (x : Feat) (n : Len) (q : Mask) (b : Fin 8) (i j : Fin 512) : EReal :=
  adj x n q b i j * dinv x n q b i * dinv x n q b j

theorem adj_real (x : Feat) (n : Len) (q : Mask) (b : Fin 8) (i j : Fin 512) : ∃ r : ℝ, 0 ≤ r ∧ adj x n q b i j = r := by
  obtain ⟨w, hw, h⟩ := wgt_real (dot_isR x b i j)
  rw [adj, h, ind_real, ind_real, ind_real, ← EReal.coe_mul, ← EReal.coe_add, ← EReal.coe_mul]
  refine ⟨_, ?_, rfl⟩
  positivity

theorem deg_real (x : Feat) (n : Len) (q : Mask) (b : Fin 8) (i : Fin 512) : ∃ r : ℝ, 0 ≤ r ∧ deg x n q b i = r := by
  obtain ⟨r, h⟩ := IsR.sum Finset.univ (fun j => adj x n q b i j) fun j _ => (adj_real x n q b i j).imp fun _ h => h.2
  refine ⟨r, EReal.coe_nonneg.1 (h ▸ Finset.sum_nonneg fun j _ => ?_), h⟩
  obtain ⟨a, ha, e⟩ := adj_real x n q b i j
  rw [e]; exact EReal.coe_nonneg.2 ha

/-- The adjacency with the product distributed. -/
theorem adj_eq (x : Feat) (n : Len) (q : Mask) (b : Fin 8) (i j : Fin 512) : adj x n q b i j =
    wgt (dot x b i j) * ind (InWin n b i j) + wgt (dot x b i j) * ind (Same n q b i j) * ind (1 < cnt n q b i) := by
  obtain ⟨w, hw, h⟩ := wgt_real (dot_isR x b i j)
  rw [adj, h, ind_real, ind_real, ind_real]
  simp only [← EReal.coe_mul, ← EReal.coe_add, EReal.coe_eq_coe_iff]
  ring

/-- Outside the window nothing is adjacent. -/
theorem adj_out (x : Feat) (n : Len) (q : Mask) (b : Fin 8) (i j : Fin 512) (h : ¬InWin n b i j) : adj x n q b i j = 0 := by
  have h' : ¬Same n q b i j := fun hs => h hs.1
  rw [adj, ind, if_neg h, ind, if_neg h', zero_mul, add_zero, mul_zero]

/-- The power -1/2 of the degree is its reciprocal root. -/
theorem pow_deg (x : Feat) (n : Len) (q : Mask) (b : Fin 8) (i : Fin 512) :
    Ideal.pow (if deg x n q b i = 0 then 1 else deg x n q b i) ((-(1 / 2) : ℝ) : EReal) = dinv x n q b i := by
  obtain ⟨r, hr, h⟩ := deg_real x n q b i
  have hp : ∀ d : ℝ, 0 < d → Ideal.pow (d : EReal) ((-(1 / 2) : ℝ) : EReal) = Ideal.rsqrt d := fun d hd => by
    rw [Ideal.pow_coe_coe, Ideal.rsqrt_coe, if_neg hd.not_gt, if_neg hd.ne', EReal.coe_eq_coe_iff, Real.sqrt_eq_rpow]
    exact Real.rpow_neg hd.le _
  rw [dinv, h]
  split
  · exact hp 1 one_pos
  · next h0 => exact hp r (lt_of_le_of_ne hr fun e => h0 (by rw [← e]; rfl))

/-! ## Rows over a slab of columns -/

/-- A row that vanishes outside a slab of 384 columns sums over the slab. -/
theorem sum_slab {L : ℕ} (hL : L ≤ 128) (f : Fin 512 → EReal) (h : ∀ j : Fin 512, ¬(L ≤ j.val ∧ j.val < L + 384) → f j = 0) :
    ∑ c : Fin 384, f ⟨L + c.val, by omega⟩ = ∑ j : Fin 512, f j := by
  let e : Fin 384 ↪ Fin 512 := ⟨fun c => ⟨L + c.val, by omega⟩, fun a b hab => by
    have := congrArg Fin.val hab; exact Fin.ext (by simpa using this)⟩
  rw [show (∑ c : Fin 384, f ⟨L + c.val, by omega⟩) = ∑ j ∈ Finset.univ.map e, f j from (Finset.sum_map Finset.univ e f).symm]
  refine Finset.sum_subset (Finset.subset_univ _) fun j _ hj => h j fun hin => hj ?_
  exact Finset.mem_map.2 ⟨⟨j.val - L, by omega⟩, Finset.mem_univ _, Fin.ext (by show L + (j.val - L) = j.val; omega)⟩

end Cert.Spec

end
-- ==== Proof.Words.lean ====
/-
  The literals of both programs as extended reals, and the words both programs compute masks and speakers with.
-/
module

public import proofs.«01_k».proof.Proof.Spec
public import Idealize.ShloMosaic.Lib.WordCmp
public import Idealize.ShloMosaic.Lib.SortNet.Extract
public import Idealize.ShloMosaic.PureOps

@[expose] public section

noncomputable section

namespace Cert.Words

open Idealize.ShloMosaic Idealize.ShloMosaic.WordCmp Cert.Spec

/-! ## Literals -/

theorem lit_one : Ideal.ofBits .f32 0x3F800000#32 = 1 := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_bot : Ideal.ofBits .f32 0xFF800000#32 = ⊥ := by
  simp [Ideal.ofBits, Ideal.ieee]
theorem lit_eps : Ideal.ofBits .f32 0x322BCC77#32 = ((eps : ℝ) : EReal) := by
  simp [Ideal.ofBits, Ideal.ieee, -EReal.coe_mul, eps]; norm_num
theorem lit_c0 : Ideal.ofBits .f32 0x4B6FAC98#32 = ((15707288 : ℝ) : EReal) := by
  simp [Ideal.ofBits, Ideal.ieee, -EReal.coe_mul]
theorem lit_c1 : Ideal.ofBits .f32 0x4A0176E0#32 = ((2121144 : ℝ) : EReal) := by
  simp [Ideal.ofBits, Ideal.ieee, -EReal.coe_mul]; norm_num
theorem lit_c2 : Ideal.ofBits .f32 0x49354D20#32 = ((742610 : ℝ) : EReal) := by
  simp [Ideal.ofBits, Ideal.ieee, -EReal.coe_mul]; norm_num
theorem lit_c3 : Ideal.ofBits .f32 0x4836E740#32 = ((187293 : ℝ) : EReal) := by
  simp [Ideal.ofBits, Ideal.ieee, -EReal.coe_mul]; norm_num
theorem lit_e7 : Ideal.ofBits .f32 0x4B189680#32 = ((10000000 : ℝ) : EReal) := by
  simp [Ideal.ofBits, Ideal.ieee, -EReal.coe_mul]

/-! ## Masks as words -/

/-- A one-bit word, widened or not, reads as one or zero. -/
theorem uitofp_decide (p : Prop) [Decidable p] : FloatOps.uitofp (F := Ideal) .f32 (BitVec.ofBool (decide p)) = ind p := by
  by_cases h : p <;> simp [h, ind, FloatOps.uitofp]

theorem sitofp_decide (p : Prop) [Decidable p] :
    FloatOps.sitofp (F := Ideal) .f32 ((BitVec.ofBool (decide p)).setWidth 32) = ind p := by
  by_cases h : p <;> simp [h, ind, FloatOps.sitofp]

theorem andi_decide (p q : Prop) [Decidable p] [Decidable q] :
    IntOp.andi (BitVec.ofBool (decide p)) (BitVec.ofBool (decide q)) = BitVec.ofBool (decide (p ∧ q)) := by
  rw [andi_ofBool, Bool.decide_and]

/-- Two positions at most 15 apart, as the signed words compute it. -/
theorem near_word {i j : ℕ} (hi : i < 512) (hj : j < 512) :
    IntOp.cmpi .sle (IntOp.absi (IntOp.subi (BitVec.ofNat 32 i) (BitVec.ofNat 32 j))) 15#32
      = BitVec.ofBool (decide (|(i : ℤ) - j| ≤ 15)) := by
  have hs : (IntOp.subi (BitVec.ofNat 32 i) (BitVec.ofNat 32 j)).toInt = (i : ℤ) - j := by
    show (BitVec.ofNat 32 i - BitVec.ofNat 32 j).toInt = _
    rw [BitVec.toInt_sub, toInt_ofNat_of_lt (by omega), toInt_ofNat_of_lt (by omega), Int.bmod_eq_of_le] <;> omega
  generalize IntOp.subi (BitVec.ofNat 32 i) (BitVec.ofNat 32 j) = d at hs
  have ha : (IntOp.absi d).toInt = |(i : ℤ) - j| := by
    rw [← hs]
    show (if d.msb then -d else d).toInt = _
    rw [BitVec.msb_eq_toInt]
    by_cases h : d.toInt < 0
    · rw [if_pos (by simpa using h), abs_of_neg h, BitVec.toInt_neg, Int.bmod_eq_of_le] <;> omega
    · rw [if_neg (by simpa using h), abs_of_nonneg (not_lt.1 h)]
  rw [cmpi_sle_eq, ha]
  rfl

/-- A position before a signed length. -/
theorem before_word {i : ℕ} (hi : i < 512) (n : BitVec 32) :
    IntOp.cmpi .slt (BitVec.ofNat 32 i) n = BitVec.ofBool (decide ((i : ℤ) < n.toInt)) := by
  rw [cmpi_slt_eq, toInt_ofNat_of_lt (by omega)]

/-- Equality of speakers' words. -/
theorem same_word (s t : Fin 9) :
    IntOp.cmpi .eq (BitVec.ofNat 32 s.val) (BitVec.ofNat 32 t.val) = BitVec.ofBool (decide (s = t)) := by
  rw [cmpi_eq_ofNat (by omega) (by omega)]
  simp only [Fin.ext_iff]

/-- The least of signed words, folded from a start, is at most each of them and is one of them or the start. -/
theorem fold_minsi {ι : Type} [DecidableEq ι] (g : ι → BitVec 32) (s : Finset ι) (z : BitVec 32) :
    (∀ i ∈ s, (s.fold IntOp.minsi z g).toInt ≤ (g i).toInt) ∧
      (s.fold IntOp.minsi z g = z ∨ ∃ i ∈ s, s.fold IntOp.minsi z g = g i) := by
  induction s using Finset.cons_induction with
  | empty => simp
  | cons a s ha ih =>
    rw [Finset.fold_cons]
    have hm : ∀ x y : BitVec 32, (IntOp.minsi x y).toInt = min x.toInt y.toInt ∧ (IntOp.minsi x y = x ∨ IntOp.minsi x y = y) := by
      exact fun x y => ⟨SortNet.toInt_minsi x y, ite_eq_or_eq _ _ _⟩
    obtain ⟨e, hc⟩ := hm (g a) (s.fold IntOp.minsi z g)
    constructor
    · intro i hi
      rw [e]
      rcases Finset.mem_cons.1 hi with rfl | hi
      · exact min_le_left _ _
      · exact (min_le_right _ _).trans (ih.1 i hi)
    · rcases hc with hc | hc
      · exact .inr ⟨a, Finset.mem_cons_self .., hc⟩
      · rcases ih.2 with h | ⟨i, hi, h⟩
        · exact .inl (hc.trans h)
        · exact .inr ⟨i, Finset.mem_cons_of_mem hi, hc.trans h⟩

end Cert.Words

end
-- ==== Proof.Pay.lean ====
/-
  The kernel's vector operations at the extended reals, read at an index: what each computes of the quantities of the statement.
-/
module

public import proofs.«01_k».proof.Proof.Gen.KernelIdeal.Skeleton
public import proofs.«01_k».proof.Proof.Spec
public import proofs.«01_k».proof.Proof.Words
public import Idealize.ShloMosaic.Lib.Pipeline.Value
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.PureOps.Ideal.Laws

@[expose] public section

noncomputable section

namespace Cert.KernelIdeal.Worth

open Cert.KernelIdeal Cert.KernelIdeal.Gen Cert.Spec Cert.Words Idealize.ShloMosaic Idealize.ShloMosaic.ValueIdx

/-! ## Constants -/

theorem named_eps2 : Named.named (F := Ideal) (φ := .f32) κ "eps2" 0x24E69595#32 = ((eps2 : ℝ) : EReal) :=
  IdealRules.named_const.ideal_named_scalar _ _ _ _ rfl
theorem named_a3 : Named.named (F := Ideal) (φ := .f32) κ "a3_over_pi" 0xBBC35A8B#32 = ((A3 : ℝ) : EReal) :=
  IdealRules.named_const.ideal_named_scalar _ _ _ _ rfl
theorem named_a2 : Named.named (F := Ideal) (φ := .f32) κ "a2_over_pi" 0x3CC1A480#32 = ((A2 : ℝ) : EReal) :=
  IdealRules.named_const.ideal_named_scalar _ _ _ _ rfl
theorem named_a1 : Named.named (F := Ideal) (φ := .f32) κ "a1_over_pi" 0xBD8A46EF#32 = ((A1 : ℝ) : EReal) :=
  IdealRules.named_const.ideal_named_scalar _ _ _ _ rfl
theorem named_a0 : Named.named (F := Ideal) (φ := .f32) κ "a0_over_pi" 0x3EFFFD2F#32 = ((A0 : ℝ) : EReal) :=
  IdealRules.named_const.ideal_named_scalar _ _ _ _ rfl

/-! ## Layout -/

/-- A vector cast to its own shape. -/
theorem shapeCast_self {s : Shape} {α : Type} (v : s.Idx → α) (h : s.ShapeCasts s) : shapeCast s v h = v :=
  funext fun j => shapeCast_apply v h j j rfl

/-- A column repeated along each row. -/
theorem broadcastTo_a1_ab {a b : ℕ} {α : Type} (ha : a ≠ 1) (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ fun c => match c with
    | ⟨0, _⟩ => by show i.val = if a = 1 then 0 else i.val; rw [if_neg ha]
    | ⟨1, _⟩ => by show 0 = if (1 : ℕ) = 1 then 0 else j.val; rw [if_pos rfl]

/-! ## A batch's features and speakers -/

/-- The normalised features of a batch. -/
theorem pay6_at (X : Vec Ideal S1x512x256 .f32) (x : Feat) (b : Fin 8) (hX : ∀ i k, X (ix3 (0 : Fin 1) i k) = x (ix3 b i k))
    (i : Fin 512) (k : Fin 256) : k0_pay6 (F := Ideal) X (ix2 i k) = xn x b i k := by
  dsimp only [k0_pay6]
  rw [shapeCast_self]
  refine (congrArg₂ (· * ·) (shapeCast_1ab_ab_apply X _ i k) (broadcastTo_a1_ab (by decide) _ _ i k)).trans ?_
  show _ * Ideal.rsqrt (max (shapeCast S512x1 _ _ (ix2 i (0 : Fin 1))) (Named.named (F := Ideal) (φ := .f32) κ "eps2" 0x24E69595#32)) = _
  rw [named_eps2, hX]
  refine congrArg (fun s => _ * Ideal.rsqrt (max s _)) (((shapeCast_a_a1_apply _ _ i 0).trans (Ideal.multiReduction_add_single _ _ _ _ _ _)).trans <| Finset.sum_congr rfl fun l _ => ?_)
  have e : (reduces_S512x256_S512).lift (ix1 i) l = ix2 i l := by ext a; fin_cases a <;> rfl
  rw [e]
  refine (congrArg₂ (· * ·) (shapeCast_1ab_ab_apply X _ i l) (shapeCast_1ab_ab_apply X _ i l)).trans ?_
  exact congrArg₂ (· * ·) (hX i l) (hX i l)

/-- A row's number where its entry reaches the column's bound, 16 elsewhere. -/
theorem firstRow_at (m : FVec Ideal S16x512 .f32) (M : FVec Ideal S512 .f32) (s : Fin 16) (j : Fin 512) :
    select (cmpf .oge m (broadcastTo S16x512 (shapeCast S1x512 M shapeCasts_S512_S1x512) broadcasts_S1x512_S16x512))
        (iota .tc S16x512 32 [0] iota_S16x512_d0_w32) (broadcast S16x512 16#32) (ix2 s j)
      = if M (ix1 j) ≤ m (ix2 s j) then BitVec.ofNat 32 s.val else 16#32 := by
  have hb : broadcastTo S16x512 (shapeCast S1x512 M shapeCasts_S512_S1x512) broadcasts_S1x512_S16x512 (ix2 s j) = M (ix1 j) :=
    (broadcastTo_1b_ab_apply _ _ s j).trans (shapeCast_a_1a_apply _ _ 0 j)
  show Scalar.select (BitVec.ofBool (decide (broadcastTo S16x512 _ _ (ix2 s j) ≤ m (ix2 s j)))) (iota .tc S16x512 32 [0] _ (ix2 s j)) 16#32 = _
  rw [hb, WordCmp.select_decide, iota_single_apply]

/-- The least word of a column. -/
theorem minRow_at (v : IVec S16x512 32) (h : 2147483647#32 = IKind.minsi.neutral) (j : Fin 512) :
    multiReductionI .minsi [0] S512 v 2147483647#32 reduces_S16x512_S512 h (ix1 j)
      = (Finset.univ : Finset (Fin 16)).fold IntOp.minsi 2147483647#32 fun s => v (ix2 s j) := by
  rw [multiReductionI_eq_fold, (reduces_S16x512_S512).fold_filter_drop_single]
  have hlift (s : Fin 16) : (reduces_S16x512_S512).lift (ix1 j) s = ix2 s j := by ext a; fin_cases a <;> rfl
  exact Finset.fold_congr fun s _ => congrArg v (hlift s)

/-- The speaker of each utterance of a batch, from a mask padded to sixteen rows by −1, when no entry lies below that. -/
theorem pay7_at (Q : Vec Ideal S1x16x512 .f32) (q : Mask) (b : Fin 8) (hQ : ∀ (s : Fin 9) j, Q (ix3 (0 : Fin 1) (⟨s.val, by omega⟩ : Fin 16) j) = q (ix3 j b s))
    (hpad : ∀ (s : Fin 16) j, 9 ≤ s.val → Q (ix3 (0 : Fin 1) s j) = ((-1 : ℝ) : EReal)) (hq : ∀ j s, ((-1 : ℝ) : EReal) ≤ q (ix3 j b s))
    (j : Fin 512) : k0_pay7 (F := Ideal) Q (ix1 j) = BitVec.ofNat 32 (spk q b j).val := by
  have hQ' (s : Fin 16) : shapeCast S16x512 Q shapeCasts_S1x16x512_S16x512 (ix2 s j) = Q (ix3 (0 : Fin 1) s j) := shapeCast_1ab_ab_apply Q _ s j
  obtain ⟨hmax, hfirst⟩ := spk_spec q b j
  have hs9 := (spk q b j).isLt
  have hlift (s : Fin 16) : (reduces_S16x512_S512).lift (ix1 j) s = ix2 s j := by ext a; fin_cases a <;> rfl
  have hle (s : Fin 16) : Q (ix3 (0 : Fin 1) s j) ≤ q (ix3 j b (spk q b j)) := by
    by_cases h : s.val < 9
    · exact (hQ ⟨s.val, h⟩ j).le.trans (hmax ⟨s.val, h⟩)
    · rw [hpad s j (by omega)]
      exact hq j _
  have hl (s : Fin 16) : shapeCast S16x512 Q shapeCasts_S1x16x512_S16x512 ((reduces_S16x512_S512).lift (ix1 j) s) = Q (ix3 (0 : Fin 1) s j) := by
    rw [hlift, hQ']
  have hcol : multiReduction (F := Ideal) .maximumf [0] S512 (shapeCast S16x512 Q shapeCasts_S1x16x512_S16x512) 0xFF800000#32 reduces_S16x512_S512 (.inl rfl) rfl (ix1 j)
      = q (ix3 j b (spk q b j)) := by
    refine (Ideal.multiReduction_maximumf_single _ _ _ _ _ _).trans ?_
    apply le_antisymm
    · exact (Finset.fold_max_le _).2 ⟨(le_of_eq lit_bot).trans bot_le, fun s _ => (hl s).le.trans (hle s)⟩
    · exact (Finset.le_fold_max _).2 (.inr ⟨(⟨(spk q b j).val, by omega⟩ : Fin 16), Finset.mem_univ _, ((hl _).trans (hQ (spk q b j) j)).ge⟩)
  dsimp only [k0_pay7]
  refine (minRow_at _ _ j).trans ?_
  obtain ⟨h1, h2⟩ := fold_minsi (fun s : Fin 16 => if q (ix3 j b (spk q b j)) ≤ Q (ix3 (0 : Fin 1) s j) then BitVec.ofNat 32 s.val else 16#32) Finset.univ 2147483647#32
  refine (Finset.fold_congr fun s _ => (firstRow_at _ _ s j).trans (by rw [hcol, hQ'])).trans ?_
  have hnat (s : Fin 16) : (BitVec.ofNat 32 s.val).toInt = s.val := WordCmp.toInt_ofNat_of_lt (by omega)
  have hat := h1 (⟨(spk q b j).val, by omega⟩ : Fin 16) (Finset.mem_univ _)
  rw [if_pos (hQ (spk q b j) j).ge, hnat] at hat
  generalize (Finset.univ : Finset (Fin 16)).fold IntOp.minsi _ _ = r at h2 hat ⊢
  rcases h2 with rfl | ⟨s, -, h⟩
  · exact absurd hat (by rw [show (2147483647#32).toInt = 2147483647 from rfl]; simp only; omega)
  · split at h
    · rename_i hs
      subst h
      rw [hnat] at hat
      by_contra hne
      have hlt : s.val < (spk q b j).val := lt_of_le_of_ne (by simpa using hat) fun e => hne (by rw [e])
      have : q (ix3 j b ⟨s.val, by omega⟩) < q (ix3 j b (spk q b j)) := hfirst ⟨s.val, by omega⟩ hlt
      rw [← hQ] at this
      exact absurd hs this.not_ge
    · subst h
      exact absurd hat (by rw [show (16#32).toInt = 16 from rfl]; simp only; omega)

theorem pay8_at (Q : Vec Ideal S1x16x512 .f32) (u : Fin 1) (j : Fin 512) : k0_pay8 (F := Ideal) Q (ix2 u j) = k0_pay7 (F := Ideal) Q (ix1 j) := by
  dsimp only [k0_pay8]
  rw [shapeCast_self]
  exact shapeCast_a_1a_apply _ _ u j

theorem pay9_at (Q : Vec Ideal S1x16x512 .f32) (u : Fin 1) (j : Fin 512) : k0_pay9 (F := Ideal) Q (ix2 j u) = k0_pay7 (F := Ideal) Q (ix1 j) := by
  dsimp only [k0_pay9]
  rw [shapeCast_self]
  exact shapeCast_a_a1_apply _ _ j u

/-! ## A tile of the adjacency -/

/-- The product of a tile's rows with a slab's rows. -/
theorem matmul_at (v : FVec Ideal S128x256 .f32) (w : FVec Ideal S384x256 .f32) (r : Fin 128) (c : Fin 384) :
    matmul (F := Ideal) dot_S128x256_S384x256_S128x384_1_1_0_0_n_n none v w (constant S128x384 .f32 0x00000000#32) (ix2 r c)
      = ∑ k : Fin 256, v (ix2 r k) * w (ix2 c k) := by
  refine (Ideal.matmul_constant_zero_apply _ none v w (ix2 r c)).trans ?_
  rw [← Equiv.sum_comp (contrEquiv1 dot_S128x256_S384x256_S128x384_1_1_0_0_n_n 256 rfl rfl).symm]
  refine Finset.sum_congr rfl fun k _ => ?_
  have hk := contrEquiv1_symm_val dot_S128x256_S384x256_S128x384_1_1_0_0_n_n 256 rfl rfl k
  generalize (contrEquiv1 dot_S128x256_S384x256_S128x384_1_1_0_0_n_n 256 rfl rfl).symm k = t at hk ⊢
  have el : dot_S128x256_S384x256_S128x384_1_1_0_0_n_n.lhsIdx (ix2 r c) t = ix2 r k := funext fun a => Fin.ext (by
    match a with
    | ⟨0, _⟩ => rfl
    | ⟨1, _⟩ => exact (dot_S128x256_S384x256_S128x384_1_1_0_0_n_n.lhsIdx_val_of_single rfl _ _).trans hk)
  have er : dot_S128x256_S384x256_S128x384_1_1_0_0_n_n.rhsIdx (ix2 r c) t = ix2 c k := funext fun a => Fin.ext (by
    match a with
    | ⟨0, _⟩ => rfl
    | ⟨1, _⟩ => exact (dot_S128x256_S384x256_S128x384_1_1_0_0_n_n.rhsIdx_val_of_single rfl _ _).trans hk)
  rw [el, er]

/-- The weights of a tile. -/
theorem pay10_at (v : Vec Ideal S128x256 .f32) (w : Vec Ideal S384x256 .f32) (r : Fin 128) (c : Fin 384) :
    k0_pay10 (F := Ideal) v w (ix2 r c) = wgt (∑ k : Fin 256, v (ix2 r k) * w (ix2 c k)) := by
  rw [← matmul_at v w r c]
  dsimp only [k0_pay10]
  generalize matmul (F := Ideal) _ _ v w _ = m
  show Scalar.select (BitVec.ofBool (decide (Ideal.ofBits .f32 0x00000000#32 ≤ m (ix2 r c))))
    (Ideal.ofBits .f32 0x3F800000#32 - Ideal.sqrt (max (Ideal.ofBits .f32 0x3F800000#32 - max (m (ix2 r c)) (-m (ix2 r c))) (Ideal.ofBits .f32 0x00000000#32))
      * (((Named.named κ "a3_over_pi" 0xBBC35A8B#32 * max (m (ix2 r c)) (-m (ix2 r c)) + Named.named κ "a2_over_pi" 0x3CC1A480#32) * max (m (ix2 r c)) (-m (ix2 r c))
        + Named.named κ "a1_over_pi" 0xBD8A46EF#32) * max (m (ix2 r c)) (-m (ix2 r c)) + Named.named κ "a0_over_pi" 0x3EFFFD2F#32))
    (Ideal.sqrt (max (Ideal.ofBits .f32 0x3F800000#32 - max (m (ix2 r c)) (-m (ix2 r c))) (Ideal.ofBits .f32 0x00000000#32))
      * (((Named.named κ "a3_over_pi" 0xBBC35A8B#32 * max (m (ix2 r c)) (-m (ix2 r c)) + Named.named κ "a2_over_pi" 0x3CC1A480#32) * max (m (ix2 r c)) (-m (ix2 r c))
        + Named.named κ "a1_over_pi" 0xBD8A46EF#32) * max (m (ix2 r c)) (-m (ix2 r c)) + Named.named κ "a0_over_pi" 0x3EFFFD2F#32)) = _
  rw [named_a3, named_a2, named_a1, named_a0, lit_one, Ideal.ofBits_zero_f32, WordCmp.select_decide]
  rfl

/-- The window mask of the tile whose rows start at `R` and columns at `L`. -/
theorem pay11_at (n : Len) (b : Fin 8) {R L : ℕ} (hR : R + 128 ≤ 512) (hL : L ≤ 128) (r : Fin 128) (c : Fin 384) :
    k0_pay11 (F := Ideal) (n (ix1 b)) (BitVec.ofNat 32 R) (BitVec.ofNat 32 L) (ix2 r c)
      = BitVec.ofBool (decide (InWin n b ⟨R + r.val, by omega⟩ ⟨L + c.val, by omega⟩)) := by
  dsimp only [k0_pay11]
  have er : IntOp.addi (iota .tc S128x384 32 [0] iota_S128x384_d0_w32 (ix2 r c)) (BitVec.ofNat 32 R) = BitVec.ofNat 32 (R + r.val) := by
    rw [iota_single_apply, add_comm R]
    exact (BitVec.ofNat_add _ _).symm
  have ec : IntOp.addi (iota .tc S128x384 32 [1] iota_S128x384_d1_w32 (ix2 r c)) (BitVec.ofNat 32 L) = BitVec.ofNat 32 (L + c.val) := by
    rw [iota_single_apply, add_comm L]
    exact (BitVec.ofNat_add _ _).symm
  show IntOp.andi (IntOp.andi (IntOp.cmpi .sle (IntOp.absi (IntOp.subi
      (IntOp.addi (iota .tc S128x384 32 [0] iota_S128x384_d0_w32 (ix2 r c)) (BitVec.ofNat 32 R))
      (IntOp.addi (iota .tc S128x384 32 [1] iota_S128x384_d1_w32 (ix2 r c)) (BitVec.ofNat 32 L)))) 15#32)
      (IntOp.cmpi .slt (IntOp.addi (iota .tc S128x384 32 [0] iota_S128x384_d0_w32 (ix2 r c)) (BitVec.ofNat 32 R)) (n (ix1 b))))
    (IntOp.cmpi .slt (IntOp.addi (iota .tc S128x384 32 [1] iota_S128x384_d1_w32 (ix2 r c)) (BitVec.ofNat 32 L)) (n (ix1 b))) = _
  rw [er, ec, near_word (by omega) (by omega), before_word (by omega), before_word (by omega), andi_decide, andi_decide]
  refine congrArg BitVec.ofBool (decide_eq_decide.2 ?_)
  unfold InWin
  rw [and_assoc]

/-- The operands of a tile: weights, window mask and speakers of the rows from `R` on and of the 384 columns from `L` on,
    which contain every position within 15 of such a row. -/
structure IsTile (x : Feat) (n : Len) (q : Mask) (b : Fin 8) (R L : ℕ) (hR : R + 128 ≤ 512) (hL : L ≤ 128)
    (w : FVec Ideal S128x384 .f32) (m : IVec S128x384 1) (rs : Vec Ideal S128x1 .i32) (cs : Vec Ideal S1x384 .i32) : Prop where
  weight : ∀ (r : Fin 128) (c : Fin 384), w (ix2 r c) = wgt (dot x b ⟨R + r.val, by omega⟩ ⟨L + c.val, by omega⟩)
  mask : ∀ (r : Fin 128) (c : Fin 384), m (ix2 r c) = BitVec.ofBool (decide (InWin n b ⟨R + r.val, by omega⟩ ⟨L + c.val, by omega⟩))
  rows : ∀ r : Fin 128, rs (ix2 r (0 : Fin 1)) = BitVec.ofNat 32 (spk q b ⟨R + r.val, by omega⟩).val
  cols : ∀ c : Fin 384, cs (ix2 (0 : Fin 1) c) = BitVec.ofNat 32 (spk q b ⟨L + c.val, by omega⟩).val
  cover : ∀ (r : Fin 128) (j : Fin 512), |((R + r.val : ℕ) : ℤ) - j| ≤ 15 → L ≤ j.val ∧ j.val < L + 384

section Tile

variable {x : Feat} {n : Len} {q : Mask} {b : Fin 8} {R L : ℕ} {hR : R + 128 ≤ 512} {hL : L ≤ 128}
  {w : FVec Ideal S128x384 .f32} {m : IVec S128x384 1} {rs : Vec Ideal S128x1 .i32} {cs : Vec Ideal S1x384 .i32}

/-- The adjacency of a tile. -/
theorem pay12_at (h : IsTile x n q b R L hR hL w m rs cs) (r : Fin 128) (c : Fin 384) :
    k0_pay12 (F := Ideal) w m rs cs (ix2 r c) = adj x n q b ⟨R + r.val, by omega⟩ ⟨L + c.val, by omega⟩ := by
  have hs (c : Fin 384) : andi m (cmpi .eq (broadcastTo S128x384 rs broadcasts_S128x1_S128x384) (broadcastTo S128x384 cs broadcasts_S1x384_S128x384)) (ix2 r c)
      = BitVec.ofBool (decide (Same n q b ⟨R + r.val, by omega⟩ ⟨L + c.val, by omega⟩)) := by
    show IntOp.andi (m (ix2 r c)) (IntOp.cmpi .eq (broadcastTo S128x384 rs broadcasts_S128x1_S128x384 (ix2 r c)) (broadcastTo S128x384 cs broadcasts_S1x384_S128x384 (ix2 r c))) = _
    have e1 : broadcastTo S128x384 rs broadcasts_S128x1_S128x384 (ix2 r c) = rs (ix2 r (0 : Fin 1)) := broadcastTo_a1_ab (by decide) rs _ r c
    have e2 : broadcastTo S128x384 cs broadcasts_S1x384_S128x384 (ix2 r c) = cs (ix2 (0 : Fin 1) c) := broadcastTo_1b_ab_apply cs _ r c
    rw [e1, e2, h.rows, h.cols, same_word, h.mask, andi_decide]
    rfl
  dsimp only [k0_pay12]
  generalize andi m (cmpi .eq (broadcastTo S128x384 rs broadcasts_S128x1_S128x384) (broadcastTo S128x384 cs broadcasts_S1x384_S128x384)) = S at hs ⊢
  have hf (c : Fin 384) : sitofp (F := Ideal) .f32 (extui 32 S natLt_1_32) (ix2 r c) = ind (Same n q b ⟨R + r.val, by omega⟩ ⟨L + c.val, by omega⟩) := by
    show FloatOps.sitofp (F := Ideal) .f32 ((S (ix2 r c)).setWidth 32) = _
    rw [hs, sitofp_decide]
  have hcnt : multiReduction (F := Ideal) .add [1] S128 (sitofp .f32 (extui 32 S natLt_1_32)) 0x00000000#32 reduces_S128x384_S128 (.inl rfl) rfl (ix1 r)
      = cnt n q b ⟨R + r.val, by omega⟩ := by
    refine (Ideal.multiReduction_add_single _ _ _ _ _ _).trans (Eq.trans (Finset.sum_congr rfl fun k _ => ?_) (sum_slab hL (fun j => ind (Same n q b ⟨R + r.val, by omega⟩ j)) fun j hj => if_neg fun hw => hj (h.cover r j hw.1.1)))
    have e : (reduces_S128x384_S128).lift (ix1 r) k = ix2 r k := by ext a; fin_cases a <;> rfl
    rw [e]
    exact hf k
  show w (ix2 r c) * (FloatOps.sitofp (F := Ideal) .f32 ((m (ix2 r c)).setWidth 32) + sitofp (F := Ideal) .f32 (extui 32 S natLt_1_32) (ix2 r c)
    * broadcastTo S128x384 (shapeCast S128x1 _ shapeCasts_S128_S128x1) broadcasts_S128x1_S128x384 (ix2 r c)) = _
  rw [h.weight, h.mask, sitofp_decide, hf]
  refine (congrArg (fun g => _ * (_ + _ * g)) ((broadcastTo_a1_ab (by decide) _ _ r c).trans (shapeCast_a_a1_apply _ _ r 0))).trans ?_
  show _ * (_ + _ * FloatOps.sitofp (F := Ideal) .f32 ((BitVec.ofBool (decide (Ideal.ofBits .f32 0x3F800000#32 < multiReduction (F := Ideal) .add [1] S128
    (sitofp .f32 (extui 32 S natLt_1_32)) 0x00000000#32 reduces_S128x384_S128 (.inl rfl) rfl (ix1 r)))).setWidth 32)) = _
  rw [hcnt, lit_one, sitofp_decide]
  rfl

/-- The normalisers of a tile's rows. -/
theorem pay14_at (h : IsTile x n q b R L hR hL w m rs cs) (r : Fin 128) :
    k0_pay14 (F := Ideal) w m rs cs (ix1 r) = dinv x n q b ⟨R + r.val, by omega⟩ := by
  have hdeg : multiReduction (F := Ideal) .add [1] S128 (k0_pay12 w m rs cs) 0x00000000#32 reduces_S128x384_S128 (.inl rfl) rfl (ix1 r)
      = deg x n q b ⟨R + r.val, by omega⟩ := by
    refine (Ideal.multiReduction_add_single _ _ _ _ _ _).trans (Eq.trans (Finset.sum_congr rfl fun k _ => ?_) (sum_slab hL (fun j => adj x n q b ⟨R + r.val, by omega⟩ j) fun j hj => adj_out _ _ _ _ _ _ fun hw => hj (h.cover r j hw.1)))
    have e : (reduces_S128x384_S128).lift (ix1 r) k = ix2 r k := by ext a; fin_cases a <;> rfl
    rw [e]
    exact pay12_at h r k
  dsimp only [k0_pay14]
  show Ideal.rsqrt (Scalar.select (BitVec.ofBool (decide (multiReduction (F := Ideal) .add [1] S128 (k0_pay12 w m rs cs) 0x00000000#32 reduces_S128x384_S128 (.inl rfl) rfl (ix1 r)
    = Ideal.ofBits .f32 0x00000000#32))) (Ideal.ofBits .f32 0x3F800000#32) (multiReduction (F := Ideal) .add [1] S128 (k0_pay12 w m rs cs) 0x00000000#32 reduces_S128x384_S128 (.inl rfl) rfl (ix1 r))) = _
  rw [hdeg, Ideal.ofBits_zero_f32, lit_one, WordCmp.select_decide]
  rfl

/-- The adjacency of a tile, as stored. -/
theorem pay13_at (h : IsTile x n q b R L hR hL w m rs cs) (r : Fin 128) (c : Fin 384) :
    k0_pay13 (F := Ideal) w m rs cs (ix2 r c) = adj x n q b ⟨R + r.val, by omega⟩ ⟨L + c.val, by omega⟩ := by
  dsimp only [k0_pay13]
  rw [shapeCast_self, pay12_at h]

/-- The normalisers of a tile's rows, stored as a column. -/
theorem pay3_at (h : IsTile x n q b R L hR hL w m rs cs) (r : Fin 128) :
    k0_pay3 (F := Ideal) (k0_pay14 w m rs cs) (ix2 r (0 : Fin 1)) = dinv x n q b ⟨R + r.val, by omega⟩ := by
  dsimp only [k0_pay3]
  rw [shapeCast_self]
  exact (shapeCast_a_a1_apply _ _ r 0).trans (pay14_at h r)

/-- The normalisers of a tile's rows, stored as a row. -/
theorem pay2_at (h : IsTile x n q b R L hR hL w m rs cs) (r : Fin 128) :
    k0_pay2 (F := Ideal) (k0_pay15 w m rs cs) (ix2 (0 : Fin 1) r) = dinv x n q b ⟨R + r.val, by omega⟩ := by
  dsimp only [k0_pay2, k0_pay15]
  rw [shapeCast_self]
  exact (shapeCast_a_1a_apply _ _ 0 r).trans (pay14_at h r)

end Tile

/-! ## An output tile -/

/-- The zeros an output tile starts from. -/
theorem pay4_at (u : Fin 1) (r : Fin 128) (j : Fin 512) : k0_pay4 (F := Ideal) (ix3 u r j) = 0 := by
  dsimp only [k0_pay4]
  refine (shapeCast_ab_1ab_apply _ _ u r j).trans ?_
  exact Ideal.ofBits_zero_f32

/-- A slab scaled by its rows' and columns' normalisers. -/
theorem pay5_at (d : Vec Ideal S128x1 .f32) (e : Vec Ideal S1x384 .f32) (a : Vec Ideal S128x384 .f32) (u : Fin 1) (r : Fin 128) (c : Fin 384) :
    k0_pay5 (F := Ideal) d e a (ix3 u r c) = a (ix2 r c) * d (ix2 r (0 : Fin 1)) * e (ix2 (0 : Fin 1) c) := by
  dsimp only [k0_pay5]
  refine (shapeCast_ab_1ab_apply _ _ u r c).trans ?_
  exact congrArg₂ (fun s t => a (ix2 r c) * s * t) (broadcastTo_a1_ab (by decide) d _ r c) (broadcastTo_1b_ab_apply e _ r c)

end Cert.KernelIdeal.Worth

end
-- ==== Proof.Steps.lean ====
/-
  The idealized kernel's states at the extended reals: what the scratches hold after each tile, and that a grid point leaves the
  next tile's contents there and the finished output of the tile before in the output block.
-/
module

public import proofs.«01_k».proof.Proof.IdealLaunch
public import proofs.«01_k».proof.Proof.Pay

@[expose] public section

set_option maxRecDepth 16384

noncomputable section

namespace Cert.KernelIdeal.Worth

open Cert.KernelIdeal Cert.KernelIdeal.Gen Cert.KernelIdeal.Hand Cert.Spec Cert.Words Idealize.ShloMosaic Idealize.ShloMosaic.ValueIdx

/-! ## The grid's points -/

/-- The first column of the slab of the batch's tile `k`: a tile earlier, kept inside the columns. -/
def lo (k : ℕ) : ℕ := min (128 * (k - 1)) 128

theorem lo_le (k : ℕ) : lo k ≤ 128 := min_le_right _ _

/-- Everything within 15 of a row of tile `k` lies in the tile's slab. -/
theorem lo_cover {k : ℕ} (hk : k < 4) (r : Fin 128) (j : Fin 512) (h : |((128 * k + r.val : ℕ) : ℤ) - j| ≤ 15) : lo k ≤ j.val ∧ j.val < lo k + 384 := by
  rw [abs_le] at h
  have := r.isLt
  have := j.isLt
  unfold lo
  omega

theorem first_iff : ∀ t : Fin grid0.N, first (grid0.coords t) ↔ t.val = 0 := by decide +kernel
theorem firstTile_iff : ∀ t : Fin grid0.N, firstTile (grid0.coords t) ↔ t.val % 4 = 0 := by decide +kernel
theorem cond2_iff : ∀ t : Fin grid0.N, k0_cond2 (grid0.coords t) = 1#1 ↔ t.val < 32 := by decide +kernel
theorem cond4_iff : ∀ t : Fin grid0.N, k0_cond4 (grid0.coords t) = 1#1 ↔ 1 ≤ t.val := by decide +kernel
theorem rowWord_eq : ∀ t : Fin grid0.N, rowWord (grid0.coords t) = BitVec.ofNat 32 (128 * (t.val % 4)) := by decide +kernel
theorem loWord_eq : ∀ t : Fin grid0.N, loWord (grid0.coords t) = BitVec.ofNat 32 (lo (t.val % 4)) := by decide +kernel
theorem off1_eq : ∀ t : Fin grid0.N, t.val < 32 → k0_off1 (grid0.coords t) = ![t.val / 4] := by decide +kernel
theorem off2_eq : ∀ t : Fin grid0.N, k0_off2 (grid0.coords t) = ![128 * (t.val % 4), 0] := by decide +kernel
theorem off3_eq : ∀ t : Fin grid0.N, k0_off3 (grid0.coords t) = ![lo (t.val % 4), 0] := by decide +kernel
theorem off4_eq : ∀ t : Fin grid0.N, k0_off4 (grid0.coords t) = ![128 * (t.val % 4), 0] := by decide +kernel
theorem off5_eq : ∀ t : Fin grid0.N, k0_off5 (grid0.coords t) = ![0, lo (t.val % 4)] := by decide +kernel
theorem off6_eq : ∀ t : Fin grid0.N, k0_off6 (grid0.coords t) = ![0, 384 * (t.val % 2)] := by decide +kernel
theorem off7_eq : ∀ t : Fin grid0.N, k0_off7 (grid0.coords t) = ![0, 128 * (t.val % 4)] := by decide +kernel
theorem off8_eq : ∀ t : Fin grid0.N, k0_off8 (grid0.coords t) = ![0, 128 * (t.val % 2)] := by decide +kernel
theorem off9_eq : ∀ t : Fin grid0.N, 1 ≤ t.val → k0_off9 (grid0.coords t) = ![0, 128 * ((t.val - 1) % 2)] := by decide +kernel
theorem off10_eq : ∀ t : Fin grid0.N, 1 ≤ t.val → k0_off10 (grid0.coords t) = ![0, lo ((t.val - 1) % 4)] := by decide +kernel
theorem off11_eq : ∀ t : Fin grid0.N, 1 ≤ t.val → k0_off11 (grid0.coords t) = ![0, 384 * ((t.val - 1) % 2)] := by decide +kernel
theorem off12_eq : ∀ t : Fin grid0.N, 1 ≤ t.val → k0_off12 (grid0.coords t) = ![0, 0, lo ((t.val - 1) % 4)] := by decide +kernel

/-- The table cell a point reads is its batch's. -/
theorem tblIx_eq (t : Fin grid0.N) (b : Fin 8) (k : ℕ) (hk : k < 4) (ht : t.val = 4 * b.val + k) (h2 : k0_cond2 (grid0.coords t) = 1#1) :
    tblIx (grid0.coords t) h2 = ix1 b := by
  ext a
  fin_cases a
  have h := congrFun (off1_eq t ((cond2_iff t).mp h2)) 0
  show k0_off1 (grid0.coords t) 0 = b.val
  rw [h]
  show t.val / 4 = b.val
  omega

/-! ## Windows of a matrix -/

section Windows

variable {α : Type} {a b : ℕ} (x : (⟨2, ![a, b]⟩ : Shape).Idx → α) {off : Fin 2 → ℕ} {p q : ℕ} (h : off = ![p, q]) {u v : ℕ}

include h

/-- A window reads the matrix at the offsets added. -/
theorem window_at (inb : ∀ i, off i + ![u, v] i ≤ (⟨2, ![a, b]⟩ : Shape).size i) (r : Fin u) (c : Fin v) (i : Fin a) (j : Fin b)
    (hi : i.val = p + r.val) (hj : j.val = q + c.val) : VecWindow.window x off ![u, v] inb (ix2 r c) = x (ix2 i j) := by
  subst h
  refine congrArg x (funext fun d => Fin.ext ?_)
  fin_cases d
  · show p + 1 * r.val = i.val
    omega
  · show q + 1 * c.val = j.val
    omega

/-- Inside the window put, the payload. -/
theorem put_at (w : ((d : Fin 2) → Fin (![u, v] d)) → α) (r : Fin u) (c : Fin v) (i : Fin a) (j : Fin b)
    (hi : i.val = p + r.val) (hj : j.val = q + c.val) : VecWindow.put x off ![u, v] w (ix2 i j) = w (ix2 r c) := by
  subst h
  have hin : ∀ d : Fin 2, ![p, q] d ≤ (ix2 i j d).val ∧ (ix2 i j d).val < ![p, q] d + ![u, v] d := by
    intro d
    have := r.isLt
    have := c.isLt
    fin_cases d
    · show p ≤ i.val ∧ i.val < p + u
      omega
    · show q ≤ j.val ∧ j.val < q + v
      omega
  refine (dif_pos hin).trans (congrArg w (funext fun d => Fin.ext ?_))
  fin_cases d
  · show i.val - p = r.val
    omega
  · show j.val - q = c.val
    omega

/-- Beside the window's columns, the matrix. -/
theorem put_beside (w : ((d : Fin 2) → Fin (![u, v] d)) → α) (i : Fin a) (j : Fin b) (hj : j.val < q ∨ q + v ≤ j.val) :
    VecWindow.put x off ![u, v] w (ix2 i j) = x (ix2 i j) := by
  subst h
  refine dif_neg fun hin => ?_
  have h1 : q ≤ j.val ∧ j.val < q + v := hin 1
  omega

end Windows

/-- Inside the window put into a block of one matrix, the payload. -/
theorem put3_at {α : Type} {a b : ℕ} (x : (⟨3, ![1, a, b]⟩ : Shape).Idx → α) {off : Fin 3 → ℕ} {q : ℕ} (h : off = ![0, 0, q]) {v : ℕ}
    (w : ((d : Fin 3) → Fin (![1, a, v] d)) → α) (i : Fin a) (c : Fin v) (j : Fin b) (hj : j.val = q + c.val) :
    VecWindow.put x off ![1, a, v] w (ix3 (0 : Fin 1) i j) = w (ix3 (0 : Fin 1) i c) := by
  subst h
  have hin : ∀ d : Fin 3, ![0, 0, q] d ≤ (ix3 (0 : Fin 1) i j d).val ∧ (ix3 (0 : Fin 1) i j d).val < ![0, 0, q] d + ![1, a, v] d := by
    intro d
    have := i.isLt
    have := c.isLt
    fin_cases d
    · show 0 ≤ 0 ∧ 0 < 0 + 1
      omega
    · show 0 ≤ i.val ∧ i.val < 0 + a
      omega
    · show q ≤ j.val ∧ j.val < q + v
      omega
  refine (dif_pos hin).trans (congrArg w (funext fun d => Fin.ext ?_))
  fin_cases d
  · rfl
  · rfl
  · show j.val - q = c.val
    omega

/-- Beside the window put into a block of one matrix, the block. -/
theorem put3_beside {α : Type} {a b : ℕ} (x : (⟨3, ![1, a, b]⟩ : Shape).Idx → α) {off : Fin 3 → ℕ} {q : ℕ} (h : off = ![0, 0, q]) {v : ℕ}
    (w : ((d : Fin 3) → Fin (![1, a, v] d)) → α) (i : Fin a) (j : Fin b) (hj : j.val < q ∨ q + v ≤ j.val) :
    VecWindow.put x off ![1, a, v] w (ix3 (0 : Fin 1) i j) = x (ix3 (0 : Fin 1) i j) := by
  subst h
  refine dif_neg fun hin => ?_
  have h1 : q ≤ j.val ∧ j.val < q + v := hin 2
  omega

/-! ## What the scratches hold -/

section States

variable (x : Feat) (n : Len) (q : Mask) (b : Fin 8)

/-- The batch's rows and speakers are in place, and the normalisers of the tiles below `k`. -/
structure Loaded (k : ℕ) (S : St Ideal) : Prop where
  rows : ∀ (i : Fin 512) (l : Fin 256), S.a0 (ix2 i l) = xn x b i l
  spkRow : ∀ j : Fin 512, S.a1 (ix2 (0 : Fin 1) j) = BitVec.ofNat 32 (spk q b j).val
  spkCol : ∀ i : Fin 512, S.a2 (ix2 i (0 : Fin 1)) = BitVec.ofNat 32 (spk q b i).val
  norms : ∀ j : Fin 512, j.val < 128 * k → S.a3 (ix2 (0 : Fin 1) j) = dinv x n q b j

/-- Tile `k` is computed: its normalisers stand in the column of its parity, its weights in the slab of its parity. -/
structure Ready (k : ℕ) (hk : k < 4) (S : St Ideal) : Prop extends Loaded x n q b (k + 1) S where
  norm : ∀ r : Fin 128, S.a4 (ix2 r (⟨128 * (k % 2), by omega⟩ : Fin 256)) = dinv x n q b ⟨128 * k + r.val, by omega⟩
  slab : ∀ (r : Fin 128) (c : Fin 384), S.a5 (ix2 r (⟨384 * (k % 2) + c.val, by omega⟩ : Fin 768))
    = adj x n q b ⟨128 * k + r.val, by omega⟩ ⟨lo k + c.val, by have := lo_le k; omega⟩

variable {x n q b}

/-- The operands a computing point reads are those of its tile. -/
theorem isTile (t : Fin grid0.N) (k : ℕ) (hk : k < 4) (ht : t.val = 4 * b.val + k) (h2 : k0_cond2 (grid0.coords t) = 1#1) (S : St Ideal) (hS : Loaded x n q b k S) :
    IsTile x n q b (128 * k) (lo k) (by omega) (lo_le k) (tileW (grid0.coords t) h2 S.a0) (winMask (F := Ideal) (grid0.coords t) h2 n)
      (rowSpk (grid0.coords t) h2 S) (colSpk (grid0.coords t) h2 S) := by
  have hm : t.val % 4 = k := by omega
  refine ⟨fun r c => ?_, fun r c => ?_, fun r => ?_, fun c => ?_, fun r j h => lo_cover hk r j h⟩
  · refine (pay10_at _ _ r c).trans (congrArg wgt (Finset.sum_congr rfl fun l _ => ?_))
    refine congrArg₂ (· * ·) ((window_at S.a0 ((off2_eq t).trans (by rw [hm])) _ r l _ l ?_ ?_).trans (hS.rows _ l))
      ((window_at S.a0 ((off3_eq t).trans (by rw [hm])) _ c l _ l ?_ ?_).trans (hS.rows _ l)) <;> simp
  · have e : winMask (F := Ideal) (grid0.coords t) h2 n = k0_pay11 (F := Ideal) (n (ix1 b)) (BitVec.ofNat 32 (128 * k)) (BitVec.ofNat 32 (lo k)) := by
      unfold winMask
      rw [tblIx_eq t b k hk ht h2, rowWord_eq, loWord_eq, hm]
    rw [e]
    exact pay11_at n b (by omega) (lo_le k) r c
  · exact (window_at S.a2 ((off4_eq t).trans (by rw [hm])) _ r (0 : Fin 1) _ (0 : Fin 1) rfl rfl).trans (hS.spkCol _)
  · exact (window_at S.a1 ((off5_eq t).trans (by rw [hm])) _ (0 : Fin 1) c (0 : Fin 1) _ rfl rfl).trans (hS.spkRow _)

/-- A computing point leaves its tile computed. -/
theorem tile_ready (t : Fin grid0.N) (k : ℕ) (hk : k < 4) (ht : t.val = 4 * b.val + k) (h2 : k0_cond2 (grid0.coords t) = 1#1) (S : St Ideal) (hS : Loaded x n q b k S) :
    Ready x n q b k hk (stTile (grid0.coords t) h2 n S) := by
  have hT := isTile t k hk ht h2 S hS
  have hm : t.val % 4 = k := by omega
  have hp : t.val % 2 = k % 2 := by omega
  refine { rows := hS.rows, spkRow := hS.spkRow, spkCol := hS.spkCol, norms := fun j hj => ?_, norm := fun r => ?_, slab := fun r c => ?_ }
  · by_cases hlt : j.val < 128 * k
    · exact (put_beside S.a3 ((off7_eq t).trans (by rw [hm])) _ (0 : Fin 1) j (.inl hlt)).trans (hS.norms j hlt)
    · refine (put_at S.a3 ((off7_eq t).trans (by rw [hm])) _ (0 : Fin 1) (⟨j.val - 128 * k, by omega⟩ : Fin 128) (0 : Fin 1) j rfl (by show j.val = 128 * k + (j.val - 128 * k); omega)).trans ?_
      refine (pay2_at hT _).trans (congrArg (dinv x n q b) (Fin.ext ?_))
      show 128 * k + (j.val - 128 * k) = j.val
      omega
  · exact (put_at S.a4 ((off8_eq t).trans (by rw [hp])) _ r (0 : Fin 1) r _ (by omega) rfl).trans (pay3_at hT r)
  · exact (put_at S.a5 ((off6_eq t).trans (by rw [hp])) _ r c r _ (by omega) rfl).trans (pay13_at hT r c)

variable (x q b) in
/-- The input blocks of the batch: its rows, and its masks with rows of minus one under them. -/
structure Blocks (X : S1x512x256.Idx → Elt Ideal .f32) (Q : S1x16x512.Idx → Elt Ideal .f32) : Prop where
  rows : ∀ i k, X (ix3 (0 : Fin 1) i k) = x (ix3 b i k)
  masks : ∀ (s : Fin 9) (j : Fin 512), Q (ix3 (0 : Fin 1) (⟨s.val, by omega⟩ : Fin 16) j) = q (ix3 j b s)
  padding : ∀ (s : Fin 16) (j : Fin 512), 9 ≤ s.val → Q (ix3 (0 : Fin 1) s j) = ((-1 : ℝ) : EReal)

variable {X : S1x512x256.Idx → Elt Ideal .f32} {Q : S1x16x512.Idx → Elt Ideal .f32}

/-- Every mask is at least the padding. -/
def AbovePadding (q : Mask) : Prop := ∀ b j s, ((-1 : ℝ) : EReal) ≤ q (ix3 j b s)

/-- Loading touches neither normalisers nor weights. -/
theorem stLoad_rest (i : grid0.Coords) (S : St Ideal) :
    (stLoad i X Q S).a3 = S.a3 ∧ (stLoad i X Q S).a4 = S.a4 ∧ (stLoad i X Q S).a5 = S.a5 := by
  unfold stLoad
  split <;> exact ⟨rfl, rfl, rfl⟩

/-- Past the first point the head changes nothing. -/
theorem stHead_of_pos (t : Fin grid0.N) (ht : t.val ≠ 0) (S : St Ideal) : stHead (grid0.coords t) S = S :=
  if_neg fun h => ht ((first_iff t).mp h)

/-- The first tile of a batch starts from the loaded blocks, a later one from the tile before. -/
theorem loaded_next (hq : AbovePadding q) (t : Fin grid0.N) (k : ℕ) (ht : t.val = 4 * b.val + k) (S : St Ideal)
    (hB : k = 0 → Blocks x q b X Q) (hS : ∀ k' (hk' : k' < 4), k = k' + 1 → Ready x n q b k' hk' S) (hk : k < 4) :
    Loaded x n q b k (stLoad (grid0.coords t) X Q (stHead (grid0.coords t) S)) := by
  rcases Nat.eq_zero_or_pos k with h0 | hpos
  · have hB := hB h0
    have h7 := pay7_at Q q b hB.masks hB.padding (hq b)
    rw [stLoad, if_pos ((firstTile_iff t).mpr (by omega))]
    exact ⟨fun i l => pay6_at X x b hB.rows i l, fun j => (pay8_at Q 0 j).trans (h7 j), fun i => (pay9_at Q 0 i).trans (h7 i), fun j hj => by omega⟩
  · rw [stHead_of_pos t (by omega), stLoad, if_neg fun h => by have := (firstTile_iff t).mp h; omega]
    obtain ⟨k', rfl⟩ : ∃ k', k = k' + 1 := ⟨k - 1, by omega⟩
    exact (hS k' (by omega) rfl).toLoaded

/-- A computing point carries the tile before to its own. -/
theorem next_ready (hq : AbovePadding q) (t : Fin grid0.N) (k : ℕ) (hk : k < 4) (ht : t.val = 4 * b.val + k) (S : St Ideal)
    (hB : k = 0 → Blocks x q b X Q) (hS : ∀ k' (hk' : k' < 4), k = k' + 1 → Ready x n q b k' hk' S) :
    Ready x n q b k hk (stNext (grid0.coords t) n X Q S) := by
  have h2 : k0_cond2 (grid0.coords t) = 1#1 := (cond2_iff t).mpr (by omega)
  rw [stNext, dif_pos h2]
  exact tile_ready t k hk ht h2 _ (loaded_next hq t k ht S hB hS hk)

/-- The point after a tile's leaves the tile's normalisers and weights in place, whichever it computes itself. -/
theorem next_keeps (t : Fin grid0.N) (k : ℕ) (hk : k < 4) (ht : t.val = 4 * b.val + k + 1) (S : St Ideal) (hS : Ready x n q b k hk S) :
    (∀ r : Fin 128, (stNext (grid0.coords t) n X Q S).a4 (ix2 r (⟨128 * (k % 2), by omega⟩ : Fin 256)) = dinv x n q b ⟨128 * k + r.val, by omega⟩)
    ∧ (∀ (r : Fin 128) (c : Fin 384), (stNext (grid0.coords t) n X Q S).a5 (ix2 r (⟨384 * (k % 2) + c.val, by omega⟩ : Fin 768))
        = adj x n q b ⟨128 * k + r.val, by omega⟩ ⟨lo k + c.val, by have := lo_le k; omega⟩)
    ∧ ∀ j : Fin 512, (k < 3 ∨ 128 ≤ j.val) → j.val < 128 * (k + 1) → (stNext (grid0.coords t) n X Q S).a3 (ix2 (0 : Fin 1) j) = dinv x n q b j := by
  have h0 := stHead_of_pos t (by omega) S
  by_cases h2 : k0_cond2 (grid0.coords t) = 1#1
  · obtain ⟨e3, e4, e5⟩ := stLoad_rest (X := X) (Q := Q) (grid0.coords t) S
    rw [stNext, dif_pos h2, h0]
    refine ⟨fun r => ?_, fun r c => ?_, fun j h3 hj => ?_⟩
    · refine (put_beside _ (off8_eq t) _ r _ ?_).trans ((congrFun e4 _).trans (hS.norm r))
      show 128 * (k % 2) < 128 * (t.val % 2) ∨ 128 * (t.val % 2) + 1 ≤ 128 * (k % 2)
      omega
    · refine (put_beside _ (off6_eq t) _ r _ ?_).trans ((congrFun e5 _).trans (hS.slab r c))
      show 384 * (k % 2) + c.val < 384 * (t.val % 2) ∨ 384 * (t.val % 2) + 384 ≤ 384 * (k % 2) + c.val
      omega
    · exact (put_beside _ (off7_eq t) _ (0 : Fin 1) j (by omega)).trans ((congrFun e3 _).trans (hS.norms j hj))
  · rw [stNext, dif_neg h2, h0]
    exact ⟨hS.norm, hS.slab, fun j _ => hS.norms j⟩

/-- What the point after a tile's multiplies the tile's entries by: the column's normaliser, wherever the entry is not nothing. -/
theorem next_scaled (hq : AbovePadding q) (t : Fin grid0.N) (k : ℕ) (hk : k < 4) (ht : t.val = 4 * b.val + k + 1) (S : St Ideal) (hS : Ready x n q b k hk S)
    (r : Fin 128) (j : Fin 512) (hj : lo k ≤ j.val) (d : EReal) :
    adj x n q b ⟨128 * k + r.val, by omega⟩ j * d * (stNext (grid0.coords t) n X Q S).a3 (ix2 (0 : Fin 1) j) = adj x n q b ⟨128 * k + r.val, by omega⟩ j * d * dinv x n q b j := by
  by_cases hw : InWin n b ⟨128 * k + r.val, by omega⟩ j
  · congr 1
    have habs := abs_le.mp hw.1
    by_cases h3 : k < 3
    · exact (next_ready hq t (k + 1) (by omega) (by omega) S (by omega) fun k' _ h => by cases h; exact hS).norms j (by
        have := r.isLt
        have h1 : -15 ≤ ((128 * k + r.val : ℕ) : ℤ) - j.val := habs.1
        omega)
    · exact (next_keeps t k hk ht S hS).2.2 j (.inr (by unfold lo at hj; omega)) (by have := j.isLt; omega)
  · rw [adj_out _ _ _ _ _ _ hw, zero_mul, zero_mul, zero_mul]

/-- The point after a tile's leaves the tile's finished rows in the output block. -/
theorem next_out (hq : AbovePadding q) (t : Fin grid0.N) (k : ℕ) (hk : k < 4) (ht : t.val = 4 * b.val + k + 1) (S : St Ideal) (hS : Ready x n q b k hk S)
    (O : S1x128x512.Idx → Elt Ideal .f32) (r : Fin 128) (j : Fin 512) :
    outNext (grid0.coords t) (stNext (grid0.coords t) n X Q S) O (ix3 (0 : Fin 1) r j) = out x n q b ⟨128 * k + r.val, by omega⟩ j := by
  have hm : (t.val - 1) % 4 = k := by omega
  have hp : (t.val - 1) % 2 = k % 2 := by omega
  have h1 : 1 ≤ t.val := by omega
  obtain ⟨e4, e5, -⟩ := next_keeps (X := X) (Q := Q) t k hk ht S hS
  rw [outNext, dif_pos ((cond4_iff t).mpr h1)]
  by_cases hin : lo k ≤ j.val ∧ j.val < lo k + 384
  · refine (put3_at _ ((off12_eq t h1).trans (by rw [hm])) _ r (⟨j.val - lo k, by omega⟩ : Fin 384) j (by show j.val = lo k + (j.val - lo k); omega)).trans ((pay5_at _ _ _ _ _ _).trans ?_)
    have hc : lo k + (j.val - lo k) = j.val := by omega
    refine Eq.trans (congrArg₂ (· * ·) (congrArg₂ (· * ·)
      ((window_at _ ((off11_eq t h1).trans (by rw [hp])) _ r _ r _ (by omega) rfl).trans ((e5 r _).trans (congrArg (adj x n q b _) (Fin.ext hc))))
      ((window_at _ ((off9_eq t h1).trans (by rw [hp])) _ r (0 : Fin 1) r _ (by omega) rfl).trans (e4 r)))
      (window_at _ ((off10_eq t h1).trans (by rw [hm])) _ (0 : Fin 1) _ (0 : Fin 1) j rfl hc.symm)) ?_
    exact next_scaled hq t k hk ht S hS r j hin.1 _
  · refine (put3_beside _ ((off12_eq t h1).trans (by rw [hm])) _ r j (by omega)).trans ((pay4_at _ _ _).trans ?_)
    have hw : ¬InWin n b ⟨128 * k + r.val, by omega⟩ j := fun hw => hin (lo_cover hk r j hw.1)
    rw [out, adj_out _ _ _ _ _ _ hw, zero_mul, zero_mul]

end States
-- ==== Proof.Final.lean ====
/-
  The idealized kernel's result: the blocks the launch fetches are the batch's rows and masks, the invariant of the scratches is
  kept over the grid, and the written blocks make up the whole normalised adjacency.
-/
module

public import proofs.«01_k».proof.Proof.Steps
public import Idealize.ShloMosaic.Lib.Pipeline.ValueKit.Geometry
public import Idealize.ShloMosaic.Lib.Pipeline.Cells

@[expose] public section

set_option maxRecDepth 16384

noncomputable section

namespace Cert.KernelIdeal.Worth

open Cert.KernelIdeal Cert.KernelIdeal.Gen Cert.KernelIdeal.Hand Cert.Spec Cert.Words
open Idealize.ShloMosaic Idealize.ShloMosaic.TcCoe Idealize.ShloMosaic.ValueIdx Idealize.ShloMosaic.Tactic

variable (m : (ℓ : Loc nD τ sig) → Buf (Elt Ideal) ℓ)

/-! ## The arguments -/

/-- The features, the lengths and the masks a core starts from. -/
def feat (c : Dev nD) : Feat := m ((c : Thread nD τ).loc main_arg0)
def len (c : Dev nD) : Len := m ((c : Thread nD τ).loc main_arg1)
def mask (c : Dev nD) : Mask := m ((c : Thread nD τ).loc main_arg2)

/-! ## The fetched blocks -/

theorem index0_eq : ∀ t : Fin grid0.N, cc0_transform_0 (grid0.coords t) = ![min t.val 31 / 4, 0, 0] := by decide +kernel
theorem index1_eq : ∀ t : Fin grid0.N, cc0_transform_1 (grid0.coords t) = ![min t.val 31 / 4, 0, 0] := by decide +kernel
theorem index2_eq : ∀ t : Fin grid0.N, cc0_transform_2 (grid0.coords t) = ![(t.val - 1) / 4, (t.val - 1) % 4, 0] := by decide +kernel
theorem flush2 : ∀ t : Fin grid0.N, 1 ≤ t.val → Pipeline.Window.flushOf grid0 true cc0_transform_2 t = true := by decide +kernel

/-- The masks as the region finds them: transposed, with rows of minus one under them. -/
theorem padded_eq (c : Dev nD) : V m c main_v2
    = concatenate S8x16x512 1 [⟨S8x9x512, transpose S8x9x512 [1, 2, 0] (mask m c) transposes_S512x8x9_S8x9x512_1_2_0⟩,
        ⟨S8x7x512, broadcastInDim S8x7x512 ![] bcast_S_S8x7x512 (constant (F := Ideal) S_ .f32 0xBF800000#32)⟩] concatenates_S8x9x512_S8x7x512_S8x16x512_d1 := by
  unfold V
  simp only [hostOps0]
  after_results_simp
  rfl

/-- An index that adds a block's offsets to a place in the block, at its coordinates. -/
theorem eq_in_block {n₀ n₁ n₂ u v w : ℕ} (y : (⟨3, ![n₀, n₁, n₂]⟩ : Shape).Idx) {f : Fin 3 → ℕ} {p q o : ℕ} (hf : f = ![p, q, o])
    (a : Fin u) (i : Fin v) (j : Fin w) (h : ∀ d : Fin 3, (y d).val = f d * ![u, v, w] d + 1 * (ix3 a i j d).val)
    (a' : Fin n₀) (i' : Fin n₁) (j' : Fin n₂) (ha : a'.val = p * u + a.val) (hi : i'.val = q * v + i.val) (hj : j'.val = o * w + j.val) :
    y = ix3 a' i' j' := by
  subst hf
  funext d
  refine Fin.ext ((h d).trans ?_)
  fin_cases d
  · exact (congrArg (p * u + ·) (one_mul _)).trans ha.symm
  · exact (congrArg (q * v + ·) (one_mul _)).trans hi.symm
  · exact (congrArg (o * w + ·) (one_mul _)).trans hj.symm

section Blocks

variable (c : Dev nD) (t : Fin grid0.N) (b : Fin 8) (k : ℕ) (hk : k < 4) (ht : t.val = 4 * b.val + k)

include hk ht

/-- The fetched rows are the batch's. -/
theorem iblk0_at (i : Fin 512) (l : Fin 256) : iblk m c 0 t (ix3 (0 : Fin 1) i l) = feat m c (ix3 b i l) := by
  refine (congrFun (V_of_ne m c main_arg0 (by decide) (by decide) (by decide) (by decide)) _).trans (congrArg (feat m c) ?_)
  exact eq_in_block _ (index0_eq t) (0 : Fin 1) i l (fun _ => rfl) b i l (by show b.val = min t.val 31 / 4 * 1 + 0; omega) (by omega) (by omega)

/-- The fetched masks are the batch's of the padded array. -/
theorem iblk1_at (s : Fin 16) (j : Fin 512) : iblk m c 1 t (ix3 (0 : Fin 1) s j) = V m c main_v2 (ix3 b s j) := by
  refine congrArg (V m c main_v2) ?_
  exact eq_in_block _ (index1_eq t) (0 : Fin 1) s j (fun _ => rfl) b s j (by show b.val = min t.val 31 / 4 * 1 + 0; omega) (by omega) (by omega)

/-- So the fetched blocks are the batch's input blocks. -/
theorem blocks_at : Blocks (feat m c) (mask m c) b (iblk m c 0 t) (iblk m c 1 t) where
  rows := iblk0_at m c t b k hk ht
  masks s j := by
    refine (iblk1_at m c t b k hk ht _ j).trans ((congrFun (padded_eq m c) _).trans ?_)
    refine (concatenate_pair_apply_left (t := S8x16x512) (s₁ := S8x9x512) (s₂ := S8x7x512) 1 _ _ _ (ix3 b (⟨s.val, by omega⟩ : Fin 16) j) rfl (ix3 b s j) fun d => by fin_cases d <;> rfl).trans ?_
    exact transpose_apply _ _ _ _ _ fun d => by fin_cases d <;> rfl
  padding s j hs := by
    refine (iblk1_at m c t b k hk ht _ j).trans ((congrFun (padded_eq m c) _).trans ?_)
    refine (concatenate_pair_apply_right (t := S8x16x512) (s₁ := S8x9x512) (s₂ := S8x7x512) 1 _ _ _ (ix3 b s j) rfl rfl (ix3 b (⟨s.val - 9, by omega⟩ : Fin 7) j) (fun d hd => by fin_cases d <;> first | rfl | exact absurd rfl hd) ?_).trans ?_
    · show s.val - 9 + 9 = s.val
      omega
    · refine (broadcastInDim_apply _ _ _ _ (fun d => d.elim0) fun d => d.elim0).trans ?_
      exact lit_neg_one

end Blocks

/-! ## The invariant -/

/-- Before point `t` the tile before, if any, is computed. -/
def Inv (c : Dev nD) (t : ℕ) (S : St Ideal) : Prop :=
  ∀ (b : Fin 8) (k : ℕ) (hk : k < 4), t = 4 * b.val + k + 1 → Ready (feat m c) (len m c) (mask m c) b k hk S

/-- After point `t` the output block holds the finished rows of the tile before, if any. -/
def Out (c : Dev nD) (t : ℕ) (O : S1x128x512.Idx → Elt Ideal .f32) : Prop :=
  ∀ (b : Fin 8) (k : ℕ) (hk : k < 4), t = 4 * b.val + k + 1 → ∀ (r : Fin 128) (j : Fin 512),
    O (ix3 (0 : Fin 1) r j) = out (feat m c) (len m c) (mask m c) b ⟨128 * k + r.val, by omega⟩ j

/-- The table the body reads is the lengths. -/
theorem tblT_eq (c : Dev nD) : tblT m = len m c := by
  obtain rfl : c = 0 := Subsingleton.elim _ _
  exact V_of_ne m 0 main_arg1 (by decide) (by decide) (by decide) (by decide)

/-- The body keeps the invariant and leaves the finished rows. -/
theorem keeps (hq : ∀ c, AbovePadding (mask m c)) : Keeps m (Inv m) (Out m) := by
  intro c t S O hS
  rw [tblT_eq m c]
  refine ⟨fun b k hk h => ?_, fun b k hk h r j => next_out (hq c) t k hk h S (hS b k hk h) O r j⟩
  have ht : t.val = 4 * b.val + k := by omega
  exact next_ready (hq c) t k hk ht S (fun _ => blocks_at m c t b k hk ht) fun k' hk' e => hS b k' hk' (by omega)

/-! ## The result -/

/-- The whole result. -/
def whole (c : Dev nD) : S8x512x512.Idx → Elt Ideal .f32 := fun i => out (feat m c) (len m c) (mask m c) (i 0) (i 1) (i 2)

/-- Once the points up to a tile's have written, the result's array holds the tile's rows. -/
theorem written (c : Dev nD) : ∀ (n : ℕ), n ≤ grid0.N → ∀ G : S8x512x512.Idx → Elt Ideal .f32, (rdat m (Inv m) (Out m) c).ArrAt (2 : Fin 3) n G →
    ∀ (b : Fin 8) (k : ℕ) (hk : k < 4), 4 * b.val + k + 1 < n → ∀ (r : Fin 128) (j : Fin 512),
      G (ix3 b (⟨128 * k + r.val, by omega⟩ : Fin 512) j) = out (feat m c) (len m c) (mask m c) b ⟨128 * k + r.val, by omega⟩ j
  | 0, _, _, _ => fun b k hk h => absurd h (by omega)
  | n + 1, hn, G, hG => fun b k hk h r j => by
    have e := (rdat m (Inv m) (Out m) c).ArrAt_succ (2 : Fin 3) (⟨n, hn⟩ : Fin grid0.N)
    have hfl : ((cfg0 (adm m 0)).win 2).flush (⟨n, hn⟩ : Fin grid0.N) = true :=
      (Pipeline.Window.flush_eq_flushOf _ _).trans (flush2 ⟨n, hn⟩ (by show 1 ≤ n; omega))
    obtain ⟨G₀, X, hG₀, ⟨Y, -, hX⟩, rfl⟩ := (congrFun (e.trans (if_pos hfl)) G).mp hG
    have hX : Out m c n X := hX
    rcases Nat.lt_succ_iff_lt_or_eq.mp h with hlt | rfl
    · refine (View.write_of_not_mem _ _ _ fun hmem => ?_).trans (written c n (by omega) G₀ hG₀ b k hk hlt r j)
      have hin := (((cfg0 (adm m 0)).win 2).emb_mem_blk_iff (⟨n, hn⟩ : Fin grid0.N) (ix3 b (⟨128 * k + r.val, by omega⟩ : Fin 512) j) rfl).mp hmem
      have e := congrFun (index2_eq ⟨n, hn⟩)
      have h0 : cc0_transform_2 (grid0.coords ⟨n, hn⟩) 0 * 1 ≤ b.val ∧ b.val < cc0_transform_2 (grid0.coords ⟨n, hn⟩) 0 * 1 + 1 := hin (0 : Fin 3)
      have h1 : cc0_transform_2 (grid0.coords ⟨n, hn⟩) 1 * 128 ≤ 128 * k + r.val ∧ 128 * k + r.val < cc0_transform_2 (grid0.coords ⟨n, hn⟩) 1 * 128 + 128 := hin (1 : Fin 3)
      rw [e 0] at h0
      rw [e 1] at h1
      have h0 : (n - 1) / 4 * 1 ≤ b.val ∧ b.val < (n - 1) / 4 * 1 + 1 := h0
      have h1 : (n - 1) % 4 * 128 ≤ 128 * k + r.val ∧ 128 * k + r.val < (n - 1) % 4 * 128 + 128 := h1
      omega
    · have hy : ix3 b (⟨128 * k + r.val, by omega⟩ : Fin 512) j = (((cfg0 (adm m 0)).win 2).blk (⟨4 * b.val + k + 1, hn⟩ : Fin grid0.N)).view.emb (ix3 (0 : Fin 1) r j) := by
        refine (eq_in_block _ (index2_eq _) (0 : Fin 1) r j (fun _ => rfl) _ _ _ ?_ ?_ ?_).symm
        · show b.val = (4 * b.val + k + 1 - 1) / 4 * 1 + 0
          omega
        · show 128 * k + r.val = (4 * b.val + k + 1 - 1) % 4 * 128 + r.val
          omega
        · omega
      rw [hy]
      refine (View.write_emb_of_mem _ _ (Finset.mem_univ _)).trans ?_
      exact hX b k hk rfl r j

/-- From any memory whose masks are at least the padding, with zero counters, every weakly fair execution of @main ends with the
    normalised adjacency in the result and the arguments unchanged. -/
theorem run (ρ : Dev nD → PrngReg) (hq : ∀ c, AbovePadding (mask m c)) :
    θ_run defs (onTc (τ := τ) (main (F := Ideal))) ⟨m, fun _ => 0, ρ⟩ fun r => ∀ c : Dev nD,
      r.2.mem ((c.tc : Thread nD τ).loc main_v3) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨funext fun i => by
      have hw := written m c grid0.N le_rfl _ ((h.1 c).1 (2 : Fin 3)) (i 0) ((i 1).val / 128) (by have : (i 1).val < 512 := (i 1).isLt; omega)
        (by have : (i 0).val < 8 := (i 0).isLt; have : (i 1).val < 512 := (i 1).isLt; show _ < 33; omega) ⟨(i 1).val % 128, Nat.mod_lt _ (by omega)⟩ (i 2)
      have hi : (⟨128 * ((i 1).val / 128) + (i 1).val % 128, by have : (i 1).val < 512 := (i 1).isLt; omega⟩ : Fin 512) = i 1 := Fin.ext (Nat.div_add_mod _ _)
      rw [hi] at hw
      exact (congrArg (r.2.mem _) (eq_ix3 i)).trans hw, args_kept m (Inv m) (Out m) h.1 c⟩)
    (run_main m ρ (Inv m) (Out m) (keeps m hq) fun c S b k hk h => absurd h (by omega))

end Cert.KernelIdeal.Worth
-- ==== Proof.RefRun.lean ====
/- The idealized reference's @main as the list of its host operations, and its run: every weakly fair execution terminates with the
   result buffer at the operations' composed term of the arguments and the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 128 (window `main_part0`). -/
abbrev ops_part0_0 : List (HloOp τ sig (Elt F)) :=
  [ binary main_arg0 main_arg0 main_v0 (mulf : (⟨S8x512x256, .f32⟩ : BufTy).Contents (Elt F) → (⟨S8x512x256, .f32⟩ : BufTy).Contents (Elt F) → (⟨S8x512x256, .f32⟩ : BufTy).Contents (Elt F)),
    nullary main_cst (constant S_ .f32 0x00000000#32),
    binary main_v0 main_cst main_v1 ((fun x v => Host.reduceAdd x v reducesTo_S8x512x256_S8x512_d2 h_S_) : (⟨S8x512x256, .f32⟩ : BufTy).Contents (Elt F) → (⟨S_, .f32⟩ : BufTy).Contents (Elt F) → (⟨S8x512, .f32⟩ : BufTy).Contents (Elt F)),
    unary main_v1 main_v2 (broadcastInDim S8x512x1 ![0, 1] bcast_S8x512_S8x512x1_0_1 : (⟨S8x512, .f32⟩ : BufTy).Contents (Elt F) → (⟨S8x512x1, .f32⟩ : BufTy).Contents (Elt F)),
    unary main_v2 main_v3 (Host.sqrt : (⟨S8x512x1, .f32⟩ : BufTy).Contents (Elt F) → (⟨S8x512x1, .f32⟩ : BufTy).Contents (Elt F)),
    nullary main_cst_0 (constant S_ .f32 0x322BCC77#32),
    unary main_cst_0 main_v4 (broadcastInDim S8x512x1 ![] bcast_S_S8x512x1 : (⟨S_, .f32⟩ : BufTy).Contents (Elt F) → (⟨S8x512x1, .f32⟩ : BufTy).Contents (Elt F)),
    binary main_v3 main_v4 main_v5 (maximumf : (⟨S8x512x1, .f32⟩ : BufTy).Contents (Elt F) → (⟨S8x512x1, .f32⟩ : BufTy).Contents (Elt F) → (⟨S8x512x1, .f32⟩ : BufTy).Contents (Elt F)),
    unary main_v5 main_v6 (broadcastInDim S8x512x256 ![0, 1, 2] bcast_S8x512x1_S8x512x256_0_1_2 : (⟨S8x512x1, .f32⟩ : BufTy).Contents (Elt F) → (⟨S8x512x256, .f32⟩ : BufTy).Contents (Elt F)),
    binary main_arg0 main_v6 main_v7 (Host.divf : (⟨S8x512x256, .f32⟩ : BufTy).Contents (Elt F) → (⟨S8x512x256, .f32⟩ : BufTy).Contents (Elt F) → (⟨S8x512x256, .f32⟩ : BufTy).Contents (Elt F)),
    binary main_v7 main_v7 main_v8 ((fun l r => Host.dotGeneral dot_S8x512x256_S8x512x256_S8x512x512_2_2_1_1_0_0 none l r) : (⟨S8x512x256, .f32⟩ : BufTy).Contents (Elt F) → (⟨S8x512x256, .f32⟩ : BufTy).Contents (Elt F) → (⟨S8x512x512, .f32⟩ : BufTy).Contents (Elt F)),
    nullary main_cst_1 (constant S_ .f32 0xBF800000#32),
    nullary main_cst_2 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8x512x512, .f32⟩) main_call0_v1) (broadcastInDim S8x512x512 ![] bcast_S_S8x512x512),
    TRef.binary (TRef.of (T := ⟨S8x512x512, .f32⟩) main_call0_v1) (TRef.of (T := ⟨S8x512x512, .f32⟩) main_v8) (TRef.of (T := ⟨S8x512x512, .f32⟩) main_call0_v2) maximumf,
    TRef.unary (TRef.of (T := ⟨S_, .f32⟩) main_cst_2) (TRef.of (T := ⟨S_, .f32⟩) main_call0_v3) id,
    TRef.unary (TRef.of (T := ⟨S_, .f32⟩) main_call0_v3) (TRef.of (T := ⟨S8x512x512, .f32⟩) main_call0_v4) (broadcastInDim S8x512x512 ![] bcast_S_S8x512x512),
    TRef.binary (TRef.of (T := ⟨S8x512x512, .f32⟩) main_call0_v4) (TRef.of (T := ⟨S8x512x512, .f32⟩) main_call0_v2) (TRef.of (T := ⟨S8x512x512, .f32⟩) main_v9) minimumf,
    unary main_v9 main_v10 (Host.absf : (⟨S8x512x512, .f32⟩ : BufTy).Contents (Elt F) → (⟨S8x512x512, .f32⟩ : BufTy).Contents (Elt F)),
    nullary main_cst_3 (constant S_ .f32 0x4A0176E0#32),
    unary main_cst_3 main_v11 (broadcastInDim S8x512x512 ![] bcast_S_S8x512x512 : (⟨S_, .f32⟩ : BufTy).Contents (Elt F) → (⟨S8x512x512, .f32⟩ : BufTy).Contents (Elt F)),
    binary main_v11 main_v10 main_v12 (mulf : (⟨S8x512x512, .f32⟩ : BufTy).Contents (Elt F) → (⟨S8x512x512, .f32⟩ : BufTy).Contents (Elt F) → (⟨S8x512x512, .f32⟩ : BufTy).Contents (Elt F)),
    nullary main_cst_4 (constant S_ .f32 0x4B6FAC98#32),
    unary main_cst_4 main_v13 (broadcastInDim S8x512x512 ![] bcast_S_S8x512x512 : (⟨S_, .f32⟩ : BufTy).Contents (Elt F) → (⟨S8x512x512, .f32⟩ : BufTy).Contents (Elt F)),
    binary main_v13 main_v12 main_v14 (subf : (⟨S8x512x512, .f32⟩ : BufTy).Contents (Elt F) → (⟨S8x512x512, .f32⟩ : BufTy).Contents (Elt F) → (⟨S8x512x512, .f32⟩ : BufTy).Contents (Elt F)),
    binary main_v10 main_v10 main_v15 (mulf : (⟨S8x512x512, .f32⟩ : BufTy).Contents (Elt F) → (⟨S8x512x512, .f32⟩ : BufTy).Contents (Elt F) → (⟨S8x512x512, .f32⟩ : BufTy).Contents (Elt F)),
    nullary main_cst_5 (constant S_ .f32 0x49354D20#32),
    unary main_cst_5 main_v16 (broadcastInDim S8x512x512 ![] bcast_S_S8x512x512 : (⟨S_, .f32⟩ : BufTy).Contents (Elt F) → (⟨S8x512x512, .f32⟩ : BufTy).Contents (Elt F)),
    binary main_v16 main_v15 main_v17 (mulf : (⟨S8x512x512, .f32⟩ : BufTy).Contents (Elt F) → (⟨S8x512x512, .f32⟩ : BufTy).Contents (Elt F) → (⟨S8x512x512, .f32⟩ : BufTy).Contents (Elt F)) ]

/-- @main's operations 31 … 60 of 128 (window `main_part0`). -/
abbrev ops_part0_1 : List (HloOp τ sig (Elt F)) :=
  [ binary main_v14 main_v17 main_v18 (addf : (⟨S8x512x512, .f32⟩ : BufTy).Contents (Elt F) → (⟨S8x512x512, .f32⟩ : BufTy).Contents (Elt F) → (⟨S8x512x512, .f32⟩ : BufTy).Contents (Elt F)),
    binary main_v10 main_v10 main_v19 (mulf : (⟨S8x512x512, .f32⟩ : BufTy).Contents (Elt F) → (⟨S8x512x512, .f32⟩ : BufTy).Contents (Elt F) → (⟨S8x512x512, .f32⟩ : BufTy).Contents (Elt F)),
    binary main_v19 main_v10 main_v20 (mulf : (⟨S8x512x512, .f32⟩ : BufTy).Contents (Elt F) → (⟨S8x512x512, .f32⟩ : BufTy).Contents (Elt F) → (⟨S8x512x512, .f32⟩ : BufTy).Contents (Elt F)),
    nullary main_cst_6 (constant S_ .f32 0x4836E740#32),
    unary main_cst_6 main_v21 (broadcastInDim S8x512x512 ![] bcast_S_S8x512x512 : (⟨S_, .f32⟩ : BufTy).Contents (Elt F) → (⟨S8x512x512, .f32⟩ : BufTy).Contents (Elt F)),
    binary main_v21 main_v20 main_v22 (mulf : (⟨S8x512x512, .f32⟩ : BufTy).Contents (Elt F) → (⟨S8x512x512, .f32⟩ : BufTy).Contents (Elt F) → (⟨S8x512x512, .f32⟩ : BufTy).Contents (Elt F)),
    binary main_v18 main_v22 main_v23 (subf : (⟨S8x512x512, .f32⟩ : BufTy).Contents (Elt F) → (⟨S8x512x512, .f32⟩ : BufTy).Contents (Elt F) → (⟨S8x512x512, .f32⟩ : BufTy).Contents (Elt F)),
    nullary main_cst_7 (constant S_ .f32 0x4B189680#32),
    unary main_cst_7 main_v24 (broadcastInDim S8x512x512 ![] bcast_S_S8x512x512 : (⟨S_, .f32⟩ : BufTy).Contents (Elt F) → (⟨S8x512x512, .f32⟩ : BufTy).Contents (Elt F)),
    binary main_v23 main_v24 main_v25 (Host.divf : (⟨S8x512x512, .f32⟩ : BufTy).Contents (Elt F) → (⟨S8x512x512, .f32⟩ : BufTy).Contents (Elt F) → (⟨S8x512x512, .f32⟩ : BufTy).Contents (Elt F)),
    nullary main_cst_8 (constant S_ .f32 0x3F800000#32),
    unary main_cst_8 main_v26 (broadcastInDim S8x512x512 ![] bcast_S_S8x512x512 : (⟨S_, .f32⟩ : BufTy).Contents (Elt F) → (⟨S8x512x512, .f32⟩ : BufTy).Contents (Elt F)),
    binary main_v26 main_v10 main_v27 (subf : (⟨S8x512x512, .f32⟩ : BufTy).Contents (Elt F) → (⟨S8x512x512, .f32⟩ : BufTy).Contents (Elt F) → (⟨S8x512x512, .f32⟩ : BufTy).Contents (Elt F)),
    unary main_v27 main_v28 (Host.sqrt : (⟨S8x512x512, .f32⟩ : BufTy).Contents (Elt F) → (⟨S8x512x512, .f32⟩ : BufTy).Contents (Elt F)),
    binary main_v28 main_v25 main_v29 (mulf : (⟨S8x512x512, .f32⟩ : BufTy).Contents (Elt F) → (⟨S8x512x512, .f32⟩ : BufTy).Contents (Elt F) → (⟨S8x512x512, .f32⟩ : BufTy).Contents (Elt F)),
    nullary main_cst_9 (constant S_ .f32 0x00000000#32),
    unary main_cst_9 main_v30 (broadcastInDim S8x512x512 ![] bcast_S_S8x512x512 : (⟨S_, .f32⟩ : BufTy).Contents (Elt F) → (⟨S8x512x512, .f32⟩ : BufTy).Contents (Elt F)),
    binary main_v9 main_v30 main_v31 (cmpf .oge : (⟨S8x512x512, .f32⟩ : BufTy).Contents (Elt F) → (⟨S8x512x512, .f32⟩ : BufTy).Contents (Elt F) → (⟨S8x512x512, .i1⟩ : BufTy).Contents (Elt F)),
    nullary main_cst_10 (constant S_ .f32 0xBF800000#32),
    unary main_cst_10 main_v32 (Host.acos : (⟨S_, .f32⟩ : BufTy).Contents (Elt F) → (⟨S_, .f32⟩ : BufTy).Contents (Elt F)),
    unary main_v32 main_v33 (id : (⟨S_, .f32⟩ : BufTy).Contents (Elt F) → (⟨S_, .f32⟩ : BufTy).Contents (Elt F)),
    unary main_v33 main_v34 (broadcastInDim S8x512x512 ![] bcast_S_S8x512x512 : (⟨S_, .f32⟩ : BufTy).Contents (Elt F) → (⟨S8x512x512, .f32⟩ : BufTy).Contents (Elt F)),
    binary main_v34 main_v29 main_v35 (subf : (⟨S8x512x512, .f32⟩ : BufTy).Contents (Elt F) → (⟨S8x512x512, .f32⟩ : BufTy).Contents (Elt F) → (⟨S8x512x512, .f32⟩ : BufTy).Contents (Elt F)),
    TRef.ternary (TRef.of (T := ⟨S8x512x512, .i1⟩) main_v31) (TRef.of (T := ⟨S8x512x512, .f32⟩) main_v29) (TRef.of (T := ⟨S8x512x512, .f32⟩) main_v35) (TRef.of (T := ⟨S8x512x512, .f32⟩) main_v36) select,
    nullary main_cst_11 (constant S_ .f32 0xBF800000#32),
    unary main_cst_11 main_v37 (Host.acos : (⟨S_, .f32⟩ : BufTy).Contents (Elt F) → (⟨S_, .f32⟩ : BufTy).Contents (Elt F)),
    unary main_v37 main_v38 (id : (⟨S_, .f32⟩ : BufTy).Contents (Elt F) → (⟨S_, .f32⟩ : BufTy).Contents (Elt F)),
    unary main_v38 main_v39 (broadcastInDim S8x512x512 ![] bcast_S_S8x512x512 : (⟨S_, .f32⟩ : BufTy).Contents (Elt F) → (⟨S8x512x512, .f32⟩ : BufTy).Contents (Elt F)),
    binary main_v36 main_v39 main_v40 (Host.divf : (⟨S8x512x512, .f32⟩ : BufTy).Contents (Elt F) → (⟨S8x512x512, .f32⟩ : BufTy).Contents (Elt F) → (⟨S8x512x512, .f32⟩ : BufTy).Contents (Elt F)),
    nullary main_cst_12 (constant S_ .f32 0x3F800000#32) ]

/-- @main's operations 61 … 65 of 128 (window `main_part0`). -/
abbrev ops_part0_2 : List (HloOp τ sig (Elt F)) :=
  [ unary main_cst_12 main_v41 (broadcastInDim S8x512x512 ![] bcast_S_S8x512x512 : (⟨S_, .f32⟩ : BufTy).Contents (Elt F) → (⟨S8x512x512, .f32⟩ : BufTy).Contents (Elt F)),
    binary main_v41 main_v40 main_v42 (subf : (⟨S8x512x512, .f32⟩ : BufTy).Contents (Elt F) → (⟨S8x512x512, .f32⟩ : BufTy).Contents (Elt F) → (⟨S8x512x512, .f32⟩ : BufTy).Contents (Elt F)),
    nullary main_v43 (iotaInDim S512 32 0),
    unary main_v43 main_v44 (broadcastInDim S512x1 ![0] bcast_S512_S512x1_0 : (⟨S512, .i32⟩ : BufTy).Contents (Elt F) → (⟨S512x1, .i32⟩ : BufTy).Contents (Elt F)),
    unary main_v43 main_v45 (broadcastInDim S1x512 ![1] bcast_S512_S1x512_1 : (⟨S512, .i32⟩ : BufTy).Contents (Elt F) → (⟨S1x512, .i32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 66 … 95 of 128 (window `main_part1`). -/
abbrev ops_part1_0 : List (HloOp τ sig (Elt F)) :=
  [ unary main_v44 main_v46 (broadcastInDim S512x512 ![0, 1] bcast_S512x1_S512x512_0_1 : (⟨S512x1, .i32⟩ : BufTy).Contents (Elt F) → (⟨S512x512, .i32⟩ : BufTy).Contents (Elt F)),
    unary main_v45 main_v47 (broadcastInDim S512x512 ![0, 1] bcast_S1x512_S512x512_0_1 : (⟨S1x512, .i32⟩ : BufTy).Contents (Elt F) → (⟨S512x512, .i32⟩ : BufTy).Contents (Elt F)),
    binary main_v46 main_v47 main_v48 (subi : (⟨S512x512, .i32⟩ : BufTy).Contents (Elt F) → (⟨S512x512, .i32⟩ : BufTy).Contents (Elt F) → (⟨S512x512, .i32⟩ : BufTy).Contents (Elt F)),
    unary main_v48 main_v49 (absi : (⟨S512x512, .i32⟩ : BufTy).Contents (Elt F) → (⟨S512x512, .i32⟩ : BufTy).Contents (Elt F)),
    nullary main_c (constantI S_ 32 15#32),
    unary main_c main_v50 (broadcastInDim S512x512 ![] bcast_S_S512x512 : (⟨S_, .i32⟩ : BufTy).Contents (Elt F) → (⟨S512x512, .i32⟩ : BufTy).Contents (Elt F)),
    binary main_v49 main_v50 main_v51 (cmpi .sle : (⟨S512x512, .i32⟩ : BufTy).Contents (Elt F) → (⟨S512x512, .i32⟩ : BufTy).Contents (Elt F) → (⟨S512x512, .i1⟩ : BufTy).Contents (Elt F)),
    unary main_v43 main_v52 (broadcastInDim S1x512 ![1] bcast_S512_S1x512_1 : (⟨S512, .i32⟩ : BufTy).Contents (Elt F) → (⟨S1x512, .i32⟩ : BufTy).Contents (Elt F)),
    unary main_arg1 main_v53 (broadcastInDim S8x1 ![0] bcast_S8_S8x1_0 : (⟨S8, .i32⟩ : BufTy).Contents (Elt F) → (⟨S8x1, .i32⟩ : BufTy).Contents (Elt F)),
    unary main_v52 main_v54 (broadcastInDim S8x512 ![0, 1] bcast_S1x512_S8x512_0_1 : (⟨S1x512, .i32⟩ : BufTy).Contents (Elt F) → (⟨S8x512, .i32⟩ : BufTy).Contents (Elt F)),
    unary main_v53 main_v55 (broadcastInDim S8x512 ![0, 1] bcast_S8x1_S8x512_0_1 : (⟨S8x1, .i32⟩ : BufTy).Contents (Elt F) → (⟨S8x512, .i32⟩ : BufTy).Contents (Elt F)),
    binary main_v54 main_v55 main_v56 (cmpi .slt : (⟨S8x512, .i32⟩ : BufTy).Contents (Elt F) → (⟨S8x512, .i32⟩ : BufTy).Contents (Elt F) → (⟨S8x512, .i1⟩ : BufTy).Contents (Elt F)),
    unary main_v56 main_v57 (broadcastInDim S8x512x1 ![0, 1] bcast_S8x512_S8x512x1_0_1 : (⟨S8x512, .i1⟩ : BufTy).Contents (Elt F) → (⟨S8x512x1, .i1⟩ : BufTy).Contents (Elt F)),
    unary main_v56 main_v58 (broadcastInDim S8x1x512 ![0, 2] bcast_S8x512_S8x1x512_0_2 : (⟨S8x512, .i1⟩ : BufTy).Contents (Elt F) → (⟨S8x1x512, .i1⟩ : BufTy).Contents (Elt F)),
    unary main_v57 main_v59 (broadcastInDim S8x512x512 ![0, 1, 2] bcast_S8x512x1_S8x512x512_0_1_2 : (⟨S8x512x1, .i1⟩ : BufTy).Contents (Elt F) → (⟨S8x512x512, .i1⟩ : BufTy).Contents (Elt F)),
    unary main_v58 main_v60 (broadcastInDim S8x512x512 ![0, 1, 2] bcast_S8x1x512_S8x512x512_0_1_2 : (⟨S8x1x512, .i1⟩ : BufTy).Contents (Elt F) → (⟨S8x512x512, .i1⟩ : BufTy).Contents (Elt F)),
    binary main_v59 main_v60 main_v61 (andi : (⟨S8x512x512, .i1⟩ : BufTy).Contents (Elt F) → (⟨S8x512x512, .i1⟩ : BufTy).Contents (Elt F) → (⟨S8x512x512, .i1⟩ : BufTy).Contents (Elt F)),
    unary main_v51 main_v62 (broadcastInDim S1x512x512 ![1, 2] bcast_S512x512_S1x512x512_1_2 : (⟨S512x512, .i1⟩ : BufTy).Contents (Elt F) → (⟨S1x512x512, .i1⟩ : BufTy).Contents (Elt F)),
    unary main_v62 main_v63 (broadcastInDim S8x512x512 ![0, 1, 2] bcast_S1x512x512_S8x512x512_0_1_2 : (⟨S1x512x512, .i1⟩ : BufTy).Contents (Elt F) → (⟨S8x512x512, .i1⟩ : BufTy).Contents (Elt F)),
    binary main_v63 main_v61 main_v64 (andi : (⟨S8x512x512, .i1⟩ : BufTy).Contents (Elt F) → (⟨S8x512x512, .i1⟩ : BufTy).Contents (Elt F) → (⟨S8x512x512, .i1⟩ : BufTy).Contents (Elt F)),
    TRef.nullary (TRef.of (T := ⟨S512x8x9, .i32⟩) main_call2_v0) (iotaInDim S512x8x9 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S512x8x9, .f32⟩) main_arg2) (TRef.of (T := ⟨S512x8x9, .i32⟩) main_call2_v0) (TRef.of (T := ⟨S_, .f32⟩) main_call2_cst) (TRef.of (T := ⟨S_, .i32⟩) main_call2_c) (TRef.of (T := ⟨S512x8, .f32⟩) main_call2_v1_0) (fun x y u v j => (Host.argReduce reducer_argmax_f32_i32 x y u v reducesTo_S512x8x9_S512x8_d2 h_S_ j).1),
    TRef.quaternary (TRef.of (T := ⟨S512x8x9, .f32⟩) main_arg2) (TRef.of (T := ⟨S512x8x9, .i32⟩) main_call2_v0) (TRef.of (T := ⟨S_, .f32⟩) main_call2_cst) (TRef.of (T := ⟨S_, .i32⟩) main_call2_c) (TRef.of (T := ⟨S512x8, .i32⟩) main_v65) (fun x y u v j => (Host.argReduce reducer_argmax_f32_i32 x y u v reducesTo_S512x8x9_S512x8_d2 h_S_ j).2),
    unary main_v65 main_v66 ((transpose S8x512 [1, 0] · transposes_S512x8_S8x512_1_0) : (⟨S512x8, .i32⟩ : BufTy).Contents (Elt F) → (⟨S8x512, .i32⟩ : BufTy).Contents (Elt F)),
    unary main_v66 main_v67 (broadcastInDim S8x512x1 ![0, 1] bcast_S8x512_S8x512x1_0_1 : (⟨S8x512, .i32⟩ : BufTy).Contents (Elt F) → (⟨S8x512x1, .i32⟩ : BufTy).Contents (Elt F)),
    unary main_v66 main_v68 (broadcastInDim S8x1x512 ![0, 2] bcast_S8x512_S8x1x512_0_2 : (⟨S8x512, .i32⟩ : BufTy).Contents (Elt F) → (⟨S8x1x512, .i32⟩ : BufTy).Contents (Elt F)),
    unary main_v67 main_v69 (broadcastInDim S8x512x512 ![0, 1, 2] bcast_S8x512x1_S8x512x512_0_1_2 : (⟨S8x512x1, .i32⟩ : BufTy).Contents (Elt F) → (⟨S8x512x512, .i32⟩ : BufTy).Contents (Elt F)),
    unary main_v68 main_v70 (broadcastInDim S8x512x512 ![0, 1, 2] bcast_S8x1x512_S8x512x512_0_1_2 : (⟨S8x1x512, .i32⟩ : BufTy).Contents (Elt F) → (⟨S8x512x512, .i32⟩ : BufTy).Contents (Elt F)),
    binary main_v69 main_v70 main_v71 (cmpi .eq : (⟨S8x512x512, .i32⟩ : BufTy).Contents (Elt F) → (⟨S8x512x512, .i32⟩ : BufTy).Contents (Elt F) → (⟨S8x512x512, .i1⟩ : BufTy).Contents (Elt F)),
    binary main_v64 main_v71 main_v72 (andi : (⟨S8x512x512, .i1⟩ : BufTy).Contents (Elt F) → (⟨S8x512x512, .i1⟩ : BufTy).Contents (Elt F) → (⟨S8x512x512, .i1⟩ : BufTy).Contents (Elt F)) ]

/-- @main's operations 96 … 125 of 128 (window `main_part1`). -/
abbrev ops_part1_1 : List (HloOp τ sig (Elt F)) :=
  [ unary main_v72 main_v73 ((extui 32 · natLt_1_32) : (⟨S8x512x512, .i1⟩ : BufTy).Contents (Elt F) → (⟨S8x512x512, .i32⟩ : BufTy).Contents (Elt F)),
    nullary main_c_13 (constantI S_ 32 0#32),
    binary main_v73 main_c_13 main_v74 ((fun x v => Host.reduce IntOp.addi x v reducesTo_S8x512x512_S8x512_d2 h_S_) : (⟨S8x512x512, .i32⟩ : BufTy).Contents (Elt F) → (⟨S_, .i32⟩ : BufTy).Contents (Elt F) → (⟨S8x512, .i32⟩ : BufTy).Contents (Elt F)),
    unary main_v64 main_v75 (uitofp .f32 : (⟨S8x512x512, .i1⟩ : BufTy).Contents (Elt F) → (⟨S8x512x512, .f32⟩ : BufTy).Contents (Elt F)),
    binary main_v42 main_v75 main_v76 (mulf : (⟨S8x512x512, .f32⟩ : BufTy).Contents (Elt F) → (⟨S8x512x512, .f32⟩ : BufTy).Contents (Elt F) → (⟨S8x512x512, .f32⟩ : BufTy).Contents (Elt F)),
    unary main_v72 main_v77 (uitofp .f32 : (⟨S8x512x512, .i1⟩ : BufTy).Contents (Elt F) → (⟨S8x512x512, .f32⟩ : BufTy).Contents (Elt F)),
    binary main_v42 main_v77 main_v78 (mulf : (⟨S8x512x512, .f32⟩ : BufTy).Contents (Elt F) → (⟨S8x512x512, .f32⟩ : BufTy).Contents (Elt F) → (⟨S8x512x512, .f32⟩ : BufTy).Contents (Elt F)),
    nullary main_c_14 (constantI S_ 32 1#32),
    unary main_c_14 main_v79 (broadcastInDim S8x512 ![] bcast_S_S8x512 : (⟨S_, .i32⟩ : BufTy).Contents (Elt F) → (⟨S8x512, .i32⟩ : BufTy).Contents (Elt F)),
    binary main_v74 main_v79 main_v80 (cmpi .sgt : (⟨S8x512, .i32⟩ : BufTy).Contents (Elt F) → (⟨S8x512, .i32⟩ : BufTy).Contents (Elt F) → (⟨S8x512, .i1⟩ : BufTy).Contents (Elt F)),
    unary main_v80 main_v81 (uitofp .f32 : (⟨S8x512, .i1⟩ : BufTy).Contents (Elt F) → (⟨S8x512, .f32⟩ : BufTy).Contents (Elt F)),
    unary main_v81 main_v82 (broadcastInDim S8x512x1 ![0, 1] bcast_S8x512_S8x512x1_0_1 : (⟨S8x512, .f32⟩ : BufTy).Contents (Elt F) → (⟨S8x512x1, .f32⟩ : BufTy).Contents (Elt F)),
    unary main_v82 main_v83 (broadcastInDim S8x512x512 ![0, 1, 2] bcast_S8x512x1_S8x512x512_0_1_2 : (⟨S8x512x1, .f32⟩ : BufTy).Contents (Elt F) → (⟨S8x512x512, .f32⟩ : BufTy).Contents (Elt F)),
    binary main_v78 main_v83 main_v84 (mulf : (⟨S8x512x512, .f32⟩ : BufTy).Contents (Elt F) → (⟨S8x512x512, .f32⟩ : BufTy).Contents (Elt F) → (⟨S8x512x512, .f32⟩ : BufTy).Contents (Elt F)),
    binary main_v76 main_v84 main_v85 (addf : (⟨S8x512x512, .f32⟩ : BufTy).Contents (Elt F) → (⟨S8x512x512, .f32⟩ : BufTy).Contents (Elt F) → (⟨S8x512x512, .f32⟩ : BufTy).Contents (Elt F)),
    nullary main_cst_15 (constant S_ .f32 0x00000000#32),
    binary main_v85 main_cst_15 main_v86 ((fun x v => Host.reduceAdd x v reducesTo_S8x512x512_S8x512_d2 h_S_) : (⟨S8x512x512, .f32⟩ : BufTy).Contents (Elt F) → (⟨S_, .f32⟩ : BufTy).Contents (Elt F) → (⟨S8x512, .f32⟩ : BufTy).Contents (Elt F)),
    nullary main_cst_16 (constant S_ .f32 0x00000000#32),
    unary main_cst_16 main_v87 (broadcastInDim S8x512 ![] bcast_S_S8x512 : (⟨S_, .f32⟩ : BufTy).Contents (Elt F) → (⟨S8x512, .f32⟩ : BufTy).Contents (Elt F)),
    binary main_v86 main_v87 main_v88 (cmpf .oeq : (⟨S8x512, .f32⟩ : BufTy).Contents (Elt F) → (⟨S8x512, .f32⟩ : BufTy).Contents (Elt F) → (⟨S8x512, .i1⟩ : BufTy).Contents (Elt F)),
    nullary main_cst_17 (constant S_ .f32 0x3F800000#32),
    TRef.unary (TRef.of (T := ⟨S_, .f32⟩) main_cst_17) (TRef.of (T := ⟨S_, .f32⟩) main_call3_v0) id,
    TRef.unary (TRef.of (T := ⟨S_, .f32⟩) main_call3_v0) (TRef.of (T := ⟨S8x512, .f32⟩) main_call3_v1) (broadcastInDim S8x512 ![] bcast_S_S8x512),
    TRef.ternary (TRef.of (T := ⟨S8x512, .i1⟩) main_v88) (TRef.of (T := ⟨S8x512, .f32⟩) main_call3_v1) (TRef.of (T := ⟨S8x512, .f32⟩) main_v86) (TRef.of (T := ⟨S8x512, .f32⟩) main_v89) select,
    nullary main_cst_18 (constant S_ .f32 0xBF000000#32),
    unary main_cst_18 main_v90 (broadcastInDim S8x512 ![] bcast_S_S8x512 : (⟨S_, .f32⟩ : BufTy).Contents (Elt F) → (⟨S8x512, .f32⟩ : BufTy).Contents (Elt F)),
    binary main_v89 main_v90 main_v91 (Host.powf : (⟨S8x512, .f32⟩ : BufTy).Contents (Elt F) → (⟨S8x512, .f32⟩ : BufTy).Contents (Elt F) → (⟨S8x512, .f32⟩ : BufTy).Contents (Elt F)),
    unary main_v91 main_v92 (broadcastInDim S8x512x1 ![0, 1] bcast_S8x512_S8x512x1_0_1 : (⟨S8x512, .f32⟩ : BufTy).Contents (Elt F) → (⟨S8x512x1, .f32⟩ : BufTy).Contents (Elt F)),
    unary main_v92 main_v93 (broadcastInDim S8x512x512 ![0, 1, 2] bcast_S8x512x1_S8x512x512_0_1_2 : (⟨S8x512x1, .f32⟩ : BufTy).Contents (Elt F) → (⟨S8x512x512, .f32⟩ : BufTy).Contents (Elt F)),
    binary main_v85 main_v93 main_v94 (mulf : (⟨S8x512x512, .f32⟩ : BufTy).Contents (Elt F) → (⟨S8x512x512, .f32⟩ : BufTy).Contents (Elt F) → (⟨S8x512x512, .f32⟩ : BufTy).Contents (Elt F)) ]

/-- @main's operations 126 … 128 of 128 (window `main_part1`). -/
abbrev ops_part1_2 : List (HloOp τ sig (Elt F)) :=
  [ unary main_v91 main_v95 (broadcastInDim S8x1x512 ![0, 2] bcast_S8x512_S8x1x512_0_2 : (⟨S8x512, .f32⟩ : BufTy).Contents (Elt F) → (⟨S8x1x512, .f32⟩ : BufTy).Contents (Elt F)),
    unary main_v95 main_v96 (broadcastInDim S8x512x512 ![0, 1, 2] bcast_S8x1x512_S8x512x512_0_1_2 : (⟨S8x1x512, .f32⟩ : BufTy).Contents (Elt F) → (⟨S8x512x512, .f32⟩ : BufTy).Contents (Elt F)),
    binary main_v94 main_v96 main_v97 (mulf : (⟨S8x512x512, .f32⟩ : BufTy).Contents (Elt F) → (⟨S8x512x512, .f32⟩ : BufTy).Contents (Elt F) → (⟨S8x512x512, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's 128 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., unary_bufs_sub .., unary_bufs_sub .., binary_bufs_sub .., ternary_bufs_sub .., nullary_bufs_sub .., unary_bufs_sub .., unary_bufs_sub .., unary_bufs_sub .., binary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., nullary_bufs_sub .., unary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., unary_bufs_sub .., unary_bufs_sub .., unary_bufs_sub .., unary_bufs_sub .., binary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., nullary_bufs_sub .., binary_bufs_sub .., unary_bufs_sub .., binary_bufs_sub .., unary_bufs_sub .., binary_bufs_sub .., nullary_bufs_sub .., unary_bufs_sub .., binary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h]
theorem ops_fresh : ∀ op ∈ (ops : List (HloOp τ sig (Elt F))), op.fresh = ∅ := fun op h => by
    simp only [ops, ops_part0, ops_part1, List.mem_append, or_assoc] at h
    rcases h with h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h]

set_option maxRecDepth 8192 in
/-- `main_v7`'s composed term of the arguments (named: it is used 2 times). -/
def res_main_v7 (V0 : Valuation τ sig (Elt F)) : (Proc.devRef .tc main_v7 : DevRef τ sig).ty.Contents (Elt F) :=
  Host.divf (V0 (Proc.devRef .tc main_arg0)) (broadcastInDim S8x512x256 ![0, 1, 2] bcast_S8x512x1_S8x512x256_0_1_2 (maximumf (Host.sqrt (broadcastInDim S8x512x1 ![0, 1] bcast_S8x512_S8x512x1_0_1 (Host.reduceAdd (mulf (V0 (Proc.devRef .tc main_arg0)) (V0 (Proc.devRef .tc main_arg0))) (constant S_ .f32 0x00000000#32) reducesTo_S8x512x256_S8x512_d2 h_S_))) (broadcastInDim S8x512x1 ![] bcast_S_S8x512x1 (constant S_ .f32 0x322BCC77#32))))

set_option maxRecDepth 8192 in
/-- `main_v9`'s composed term of the arguments (named: it is used 2 times). -/
def res_main_v9 (V0 : Valuation τ sig (Elt F)) : (Proc.devRef .tc main_v9 : DevRef τ sig).ty.Contents (Elt F) :=
  minimumf (broadcastInDim S8x512x512 ![] bcast_S_S8x512x512 (id (constant S_ .f32 0x3F800000#32))) (maximumf (broadcastInDim S8x512x512 ![] bcast_S_S8x512x512 (id (constant S_ .f32 0xBF800000#32))) (Host.dotGeneral dot_S8x512x256_S8x512x256_S8x512x512_2_2_1_1_0_0 none (res_main_v7 V0) (res_main_v7 V0)))

set_option maxRecDepth 8192 in
/-- `main_v10`'s composed term of the arguments (named: it is used 7 times). -/
def res_main_v10 (V0 : Valuation τ sig (Elt F)) : (Proc.devRef .tc main_v10 : DevRef τ sig).ty.Contents (Elt F) :=
  Host.absf (res_main_v9 V0)

set_option maxRecDepth 8192 in
/-- `main_v29`'s composed term of the arguments (named: it is used 2 times). -/
def res_main_v29 (V0 : Valuation τ sig (Elt F)) : (Proc.devRef .tc main_v29 : DevRef τ sig).ty.Contents (Elt F) :=
  mulf (Host.sqrt (subf (broadcastInDim S8x512x512 ![] bcast_S_S8x512x512 (constant S_ .f32 0x3F800000#32)) (res_main_v10 V0))) (Host.divf (subf (addf (subf (broadcastInDim S8x512x512 ![] bcast_S_S8x512x512 (constant S_ .f32 0x4B6FAC98#32)) (mulf (broadcastInDim S8x512x512 ![] bcast_S_S8x512x512 (constant S_ .f32 0x4A0176E0#32)) (res_main_v10 V0))) (mulf (broadcastInDim S8x512x512 ![] bcast_S_S8x512x512 (constant S_ .f32 0x49354D20#32)) (mulf (res_main_v10 V0) (res_main_v10 V0)))) (mulf (broadcastInDim S8x512x512 ![] bcast_S_S8x512x512 (constant S_ .f32 0x4836E740#32)) (mulf (mulf (res_main_v10 V0) (res_main_v10 V0)) (res_main_v10 V0)))) (broadcastInDim S8x512x512 ![] bcast_S_S8x512x512 (constant S_ .f32 0x4B189680#32)))

set_option maxRecDepth 8192 in
/-- `main_v42`'s composed term of the arguments (named: it is used 2 times). -/
def res_main_v42 (V0 : Valuation τ sig (Elt F)) : (Proc.devRef .tc main_v42 : DevRef τ sig).ty.Contents (Elt F) :=
  subf (broadcastInDim S8x512x512 ![] bcast_S_S8x512x512 (constant S_ .f32 0x3F800000#32)) (Host.divf (select (cmpf .oge (res_main_v9 V0) (broadcastInDim S8x512x512 ![] bcast_S_S8x512x512 (constant S_ .f32 0x00000000#32))) (res_main_v29 V0) (subf (broadcastInDim S8x512x512 ![] bcast_S_S8x512x512 (id (Host.acos (constant S_ .f32 0xBF800000#32)))) (res_main_v29 V0))) (broadcastInDim S8x512x512 ![] bcast_S_S8x512x512 (id (Host.acos (constant S_ .f32 0xBF800000#32)))))

set_option maxRecDepth 8192 in
/-- `main_v43`'s composed term of the arguments (named: it is used 3 times). -/
def res_main_v43 (V0 : Valuation τ sig (Elt F)) : (Proc.devRef .tc main_v43 : DevRef τ sig).ty.Contents (Elt F) :=
  iotaInDim S512 32 0

set_option maxRecDepth 8192 in
/-- `main_v56`'s composed term of the arguments (named: it is used 2 times). -/
def res_main_v56 (V0 : Valuation τ sig (Elt F)) : (Proc.devRef .tc main_v56 : DevRef τ sig).ty.Contents (Elt F) :=
  cmpi .slt (broadcastInDim S8x512 ![0, 1] bcast_S1x512_S8x512_0_1 (broadcastInDim S1x512 ![1] bcast_S512_S1x512_1 (res_main_v43 V0))) (broadcastInDim S8x512 ![0, 1] bcast_S8x1_S8x512_0_1 (broadcastInDim S8x1 ![0] bcast_S8_S8x1_0 (V0 (Proc.devRef .tc main_arg1))))

set_option maxRecDepth 8192 in
/-- `main_v64`'s composed term of the arguments (named: it is used 2 times). -/
def res_main_v64 (V0 : Valuation τ sig (Elt F)) : (Proc.devRef .tc main_v64 : DevRef τ sig).ty.Contents (Elt F) :=
  andi (broadcastInDim S8x512x512 ![0, 1, 2] bcast_S1x512x512_S8x512x512_0_1_2 (broadcastInDim S1x512x512 ![1, 2] bcast_S512x512_S1x512x512_1_2 (cmpi .sle (absi (subi (broadcastInDim S512x512 ![0, 1] bcast_S512x1_S512x512_0_1 (broadcastInDim S512x1 ![0] bcast_S512_S512x1_0 (res_main_v43 V0))) (broadcastInDim S512x512 ![0, 1] bcast_S1x512_S512x512_0_1 (broadcastInDim S1x512 ![1] bcast_S512_S1x512_1 (res_main_v43 V0))))) (broadcastInDim S512x512 ![] bcast_S_S512x512 (constantI S_ 32 15#32))))) (andi (broadcastInDim S8x512x512 ![0, 1, 2] bcast_S8x512x1_S8x512x512_0_1_2 (broadcastInDim S8x512x1 ![0, 1] bcast_S8x512_S8x512x1_0_1 (res_main_v56 V0))) (broadcastInDim S8x512x512 ![0, 1, 2] bcast_S8x1x512_S8x512x512_0_1_2 (broadcastInDim S8x1x512 ![0, 2] bcast_S8x512_S8x1x512_0_2 (res_main_v56 V0))))

set_option maxRecDepth 8192 in
/-- `main_v66`'s composed term of the arguments (named: it is used 2 times). -/
def res_main_v66 (V0 : Valuation τ sig (Elt F)) : (Proc.devRef .tc main_v66 : DevRef τ sig).ty.Contents (Elt F) :=
  transpose S8x512 [1, 0] (fun j => (Host.argReduce reducer_argmax_f32_i32 (V0 (Proc.devRef .tc main_arg2)) (iotaInDim S512x8x9 32 2) (constant S_ .f32 0xFF800000#32) (constantI S_ 32 0#32) reducesTo_S512x8x9_S512x8_d2 h_S_ j).2) transposes_S512x8_S8x512_1_0

set_option maxRecDepth 8192 in
/-- `main_v72`'s composed term of the arguments (named: it is used 2 times). -/
def res_main_v72 (V0 : Valuation τ sig (Elt F)) : (Proc.devRef .tc main_v72 : DevRef τ sig).ty.Contents (Elt F) :=
  andi (res_main_v64 V0) (cmpi .eq (broadcastInDim S8x512x512 ![0, 1, 2] bcast_S8x512x1_S8x512x512_0_1_2 (broadcastInDim S8x512x1 ![0, 1] bcast_S8x512_S8x512x1_0_1 (res_main_v66 V0))) (broadcastInDim S8x512x512 ![0, 1, 2] bcast_S8x1x512_S8x512x512_0_1_2 (broadcastInDim S8x1x512 ![0, 2] bcast_S8x512_S8x1x512_0_2 (res_main_v66 V0))))

set_option maxRecDepth 8192 in
/-- `main_v85`'s composed term of the arguments (named: it is used 2 times). -/
def res_main_v85 (V0 : Valuation τ sig (Elt F)) : (Proc.devRef .tc main_v85 : DevRef τ sig).ty.Contents (Elt F) :=
  addf (mulf (res_main_v42 V0) (uitofp .f32 (res_main_v64 V0))) (mulf (mulf (res_main_v42 V0) (uitofp .f32 (res_main_v72 V0))) (broadcastInDim S8x512x512 ![0, 1, 2] bcast_S8x512x1_S8x512x512_0_1_2 (broadcastInDim S8x512x1 ![0, 1] bcast_S8x512_S8x512x1_0_1 (uitofp .f32 (cmpi .sgt (Host.reduce IntOp.addi (extui 32 (res_main_v72 V0) natLt_1_32) (constantI S_ 32 0#32) reducesTo_S8x512x512_S8x512_d2 h_S_) (broadcastInDim S8x512 ![] bcast_S_S8x512 (constantI S_ 32 1#32)))))))

set_option maxRecDepth 8192 in
/-- `main_v86`'s composed term of the arguments (named: it is used 2 times). -/
def res_main_v86 (V0 : Valuation τ sig (Elt F)) : (Proc.devRef .tc main_v86 : DevRef τ sig).ty.Contents (Elt F) :=
  Host.reduceAdd (res_main_v85 V0) (constant S_ .f32 0x00000000#32) reducesTo_S8x512x512_S8x512_d2 h_S_

set_option maxRecDepth 8192 in
/-- `main_v91`'s composed term of the arguments (named: it is used 2 times). -/
def res_main_v91 (V0 : Valuation τ sig (Elt F)) : (Proc.devRef .tc main_v91 : DevRef τ sig).ty.Contents (Elt F) :=
  Host.powf (select (cmpf .oeq (res_main_v86 V0) (broadcastInDim S8x512 ![] bcast_S_S8x512 (constant S_ .f32 0x00000000#32))) (broadcastInDim S8x512 ![] bcast_S_S8x512 (id (constant S_ .f32 0x3F800000#32))) (res_main_v86 V0)) (broadcastInDim S8x512 ![] bcast_S_S8x512 (constant S_ .f32 0xBF000000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_cst_0, main_v4, main_v5, main_v6, main_v7, main_v8, main_cst_1, main_cst_2, main_call0_v0, main_call0_v1, main_call0_v2, main_call0_v3, main_call0_v4, main_v9, main_v10, main_cst_3, main_v11, main_v12, main_cst_4, main_v13, main_v14, main_v15, main_cst_5, main_v16, main_v17]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v9 (V0 : Valuation τ sig (Elt F)) : val0_1 V0 (no_index (Proc.devRef .tc main_v9)) = res_main_v9 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v14 (V0 : Valuation τ sig (Elt F)) : val0_1 V0 (no_index (Proc.devRef .tc main_v14)) = subf (broadcastInDim S8x512x512 ![] bcast_S_S8x512x512 (constant S_ .f32 0x4B6FAC98#32)) (mulf (broadcastInDim S8x512x512 ![] bcast_S_S8x512x512 (constant S_ .f32 0x4A0176E0#32)) (res_main_v10 V0)) := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v17 (V0 : Valuation τ sig (Elt F)) : val0_1 V0 (no_index (Proc.devRef .tc main_v17)) = mulf (broadcastInDim S8x512x512 ![] bcast_S_S8x512x512 (constant S_ .f32 0x49354D20#32)) (mulf (res_main_v10 V0) (res_main_v10 V0)) := by
  unfold val0_1
  simp only [ops_part0_0, TRef.binary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v18, main_v19, main_v20, main_cst_6, main_v21, main_v22, main_v23, main_cst_7, main_v24, main_v25, main_cst_8, main_v26, main_v27, main_v28, main_v29, main_cst_9, main_v30, main_v31, main_cst_10, main_v32, main_v33, main_v34, main_v35, main_v36, main_cst_11, main_v37, main_v38, main_v39, main_v40, main_cst_12]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
set_option maxRecDepth 8192 in
set_option maxHeartbeats 2000000 in
theorem val0_2_main_v40 (V0 : Valuation τ sig (Elt F)) : val0_2 V0 (no_index (Proc.devRef .tc main_v40)) = Host.divf (select (cmpf .oge (res_main_v9 V0) (broadcastInDim S8x512x512 ![] bcast_S_S8x512x512 (constant S_ .f32 0x00000000#32))) (res_main_v29 V0) (subf (broadcastInDim S8x512x512 ![] bcast_S_S8x512x512 (id (Host.acos (constant S_ .f32 0xBF800000#32)))) (res_main_v29 V0))) (broadcastInDim S8x512x512 ![] bcast_S_S8x512x512 (id (Host.acos (constant S_ .f32 0xBF800000#32)))) := by
  unfold val0_2
  simp only [ops_part0_1, TRef.ternary, TRef.toBuf, TRef.ofBuf, cast_eq]
  after_results_simp
  simp only [val0_1_main_v10, val0_1_main_v17, val0_1_main_v14, val0_1_main_v9] <;> rfl
set_option maxRecDepth 8192 in
set_option maxHeartbeats 2000000 in
theorem val0_2_main_cst_12 (V0 : Valuation τ sig (Elt F)) : val0_2 V0 (no_index (Proc.devRef .tc main_cst_12)) = constant S_ .f32 0x3F800000#32 := by
  unfold val0_2
  simp only [ops_part0_1, TRef.ternary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v41, main_v42, main_v43, main_v44, main_v45]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
set_option maxRecDepth 8192 in
theorem val1_main_v42 (V0 : Valuation τ sig (Elt F)) : val1 V0 (no_index (Proc.devRef .tc main_v42)) = res_main_v42 V0 := by
  unfold val1
  simp only [ops_part0_2]
  after_results_simp
  simp only [val0_2_main_v40, val0_2_main_cst_12] <;> rfl
set_option maxRecDepth 8192 in
theorem val1_main_v43 (V0 : Valuation τ sig (Elt F)) : val1 V0 (no_index (Proc.devRef .tc main_v43)) = res_main_v43 V0 := by
  unfold val1
  simp only [ops_part0_2]
  after_results_simp
  all_goals rfl
set_option maxRecDepth 8192 in
theorem val1_main_v44 (V0 : Valuation τ sig (Elt F)) : val1 V0 (no_index (Proc.devRef .tc main_v44)) = broadcastInDim S512x1 ![0] bcast_S512_S512x1_0 (res_main_v43 V0) := by
  unfold val1
  simp only [ops_part0_2]
  after_results_simp
  all_goals rfl
set_option maxRecDepth 8192 in
theorem val1_main_v45 (V0 : Valuation τ sig (Elt F)) : val1 V0 (no_index (Proc.devRef .tc main_v45)) = broadcastInDim S1x512 ![1] bcast_S512_S1x512_1 (res_main_v43 V0) := by
  unfold val1
  simp only [ops_part0_2]
  after_results_simp
  all_goals rfl

/-- The device's buffer contents after @main's first 95 operations. -/
def val1_1 (V0 : Valuation τ sig (Elt F)) : Valuation τ sig (Elt F) := after ops_part1_0 (val1 V0)
/-- The buffers that window `ops_part1_0`'s operations write. -/
abbrev ops_part1_0_W : List (Ref sig .tc) := [main_v46, main_v47, main_v48, main_v49, main_c, main_v50, main_v51, main_v52, main_v53, main_v54, main_v55, main_v56, main_v57, main_v58, main_v59, main_v60, main_v61, main_v62, main_v63, main_v64, main_call2_v0, main_call2_cst, main_call2_c, main_call2_v1_0, main_v65, main_v66, main_v67, main_v68, main_v69, main_v70, main_v71, main_v72]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v42 (V0 : Valuation τ sig (Elt F)) : val1_1 V0 (no_index (Proc.devRef .tc main_v42)) = res_main_v42 V0 :=
  (val1_1_keep V0 main_v42 (by decide)).trans (val1_main_v42 V0)
set_option maxRecDepth 8192 in
set_option maxHeartbeats 2000000 in
theorem val1_1_main_v64 (V0 : Valuation τ sig (Elt F)) : val1_1 V0 (no_index (Proc.devRef .tc main_v64)) = res_main_v64 V0 := by
  unfold val1_1
  simp only [ops_part1_0, TRef.binary, TRef.nullary, TRef.quaternary, TRef.unary, TRef.toBuf, TRef.ofBuf, cast_eq]
  after_results_simp
  simp only [val1_main_arg1, val1_main_v43, val1_main_v45, val1_main_v44] <;> rfl
set_option maxRecDepth 8192 in
set_option maxHeartbeats 2000000 in
theorem val1_1_main_v72 (V0 : Valuation τ sig (Elt F)) : val1_1 V0 (no_index (Proc.devRef .tc main_v72)) = res_main_v72 V0 := by
  unfold val1_1
  simp only [ops_part1_0, TRef.binary, TRef.nullary, TRef.quaternary, TRef.unary, TRef.toBuf, TRef.ofBuf, cast_eq]
  after_results_simp
  simp only [val1_main_arg2, val1_main_arg1, val1_main_v43, val1_main_v45, val1_main_v44] <;> rfl

/-- The device's buffer contents after @main's first 125 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v73, main_c_13, main_v74, main_v75, main_v76, main_v77, main_v78, main_c_14, main_v79, main_v80, main_v81, main_v82, main_v83, main_v84, main_v85, main_cst_15, main_v86, main_cst_16, main_v87, main_v88, main_cst_17, main_call3_v0, main_call3_v1, main_v89, main_cst_18, main_v90, main_v91, main_v92, main_v93, main_v94]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
set_option maxRecDepth 8192 in
set_option maxHeartbeats 2000000 in
theorem val1_2_main_v91 (V0 : Valuation τ sig (Elt F)) : val1_2 V0 (no_index (Proc.devRef .tc main_v91)) = res_main_v91 V0 := by
  unfold val1_2
  simp only [ops_part1_1, TRef.ternary, TRef.unary, TRef.toBuf, TRef.ofBuf, cast_eq]
  after_results_simp
  simp only [val1_1_main_v72, val1_1_main_v42, val1_1_main_v64] <;> rfl
set_option maxRecDepth 8192 in
set_option maxHeartbeats 2000000 in
theorem val1_2_main_v94 (V0 : Valuation τ sig (Elt F)) : val1_2 V0 (no_index (Proc.devRef .tc main_v94)) = mulf (res_main_v85 V0) (broadcastInDim S8x512x512 ![0, 1, 2] bcast_S8x512x1_S8x512x512_0_1_2 (broadcastInDim S8x512x1 ![0, 1] bcast_S8x512_S8x512x1_0_1 (res_main_v91 V0))) := by
  unfold val1_2
  simp only [ops_part1_1, TRef.ternary, TRef.unary, TRef.toBuf, TRef.ofBuf, cast_eq]
  after_results_simp
  simp only [val1_1_main_v72, val1_1_main_v42, val1_1_main_v64] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v95, main_v96, main_v97]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
set_option maxRecDepth 8192 in
theorem val2_main_v97 (V0 : Valuation τ sig (Elt F)) : val2 V0 (no_index (Proc.devRef .tc main_v97)) = mulf (mulf (res_main_v85 V0) (broadcastInDim S8x512x512 ![0, 1, 2] bcast_S8x512x1_S8x512x512_0_1_2 (broadcastInDim S8x512x1 ![0, 1] bcast_S8x512_S8x512x1_0_1 (res_main_v91 V0)))) (broadcastInDim S8x512x512 ![0, 1, 2] bcast_S8x1x512_S8x512x512_0_1_2 (broadcastInDim S8x1x512 ![0, 2] bcast_S8x512_S8x1x512_0_2 (res_main_v91 V0))) := by
  unfold val2
  simp only [ops_part1_2]
  after_results_simp
  simp only [val1_2_main_v91, val1_2_main_v94] <;> rfl

theorem after_ops (V0 : Valuation τ sig (Elt F)) : after ops V0 = val2 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97) = mulf (mulf (res_main_v85 (launchContents m c)) (broadcastInDim S8x512x512 ![0, 1, 2] bcast_S8x512x1_S8x512x512_0_1_2 (broadcastInDim S8x512x1 ![0, 1] bcast_S8x512_S8x512x1_0_1 (res_main_v91 (launchContents m c))))) (broadcastInDim S8x512x512 ![0, 1, 2] bcast_S8x1x512_S8x512x512_0_1_2 (broadcastInDim S8x1x512 ![0, 2] bcast_S8x512_S8x1x512_0_2 (res_main_v91 (launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v97).trans ((congrFun (after_ops (launchContents m c)) (Proc.devRef .tc main_v97)).trans (val2_main_v97 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c)))⟩)
    (run_seq scopedRefs_eq scopedSems_eq defs main (fun _ => ops) main_eq (fun _ => ops_sub) m ρ fun _ => ops_fresh)

end Cert.ReferenceIdeal.Value

end
-- ==== Proof.RefRead.lean ====
/- The idealized reference read one operation at a time: `val_<buffer>` is the value an operation writes as a function of the
   arguments, `val_<buffer>_apply` reads it at an index from its operands at an index. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.multiply %arg0, %arg0 : tensor<8x512x256xf32>
def val_main_v0 (x0 : (⟨S8x512x256, .f32⟩ : BufTy).Contents (Elt F)) : (⟨S8x512x256, .f32⟩ : BufTy).Contents (Elt F) :=
  mulf (x0) (x0)
theorem val_main_v0_apply (x0 : (⟨S8x512x256, .f32⟩ : BufTy).Contents (Elt F)) (i : S8x512x256.Idx) :
    val_main_v0 (F := F) x0 i = FloatOps.mulf (x0 i) (x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [2] : (tensor<8x512x256xf32>, tensor<f32>) -> tensor<8x512xf32> {
def val_main_v1 (x0 : (⟨S8x512x256, .f32⟩ : BufTy).Contents (Elt F)) : (⟨S8x512, .f32⟩ : BufTy).Contents (Elt F) :=
  Host.reduceAdd (val_main_v0 (F := F) x0) (val_main_cst (F := F)) reducesTo_S8x512x256_S8x512_d2 h_S_
abbrev idx_main_v1 (i : S8x512.Idx) (k : Fin 256) : S8x512x256.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v1_apply (x0 : (⟨S8x512x256, .f32⟩ : BufTy).Contents (Elt Ideal)) (i : S8x512.Idx) :
    val_main_v1 (F := Ideal) x0 i = (val_main_cst (F := Ideal)) (Shape.Idx.first h_S_) + ∑ k : Fin 256, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S8x512x256_S8x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %2 = stablehlo.broadcast_in_dim %1, dims = [0, 1] : (tensor<8x512xf32>) -> tensor<8x512x1xf32>
def val_main_v2 (x0 : (⟨S8x512x256, .f32⟩ : BufTy).Contents (Elt F)) : (⟨S8x512x1, .f32⟩ : BufTy).Contents (Elt F) :=
  broadcastInDim S8x512x1 ![0, 1] bcast_S8x512_S8x512x1_0_1 (val_main_v1 (F := F) x0)
abbrev idx_main_v2 (i : S8x512x1.Idx) : S8x512.Idx := fun a => match a with
  | ⟨0, _⟩ => ⟨(i 0).val, (i 0).isLt⟩
  | ⟨1, _⟩ => ⟨(i 1).val, (i 1).isLt⟩
theorem val_main_v2_apply (x0 : (⟨S8x512x256, .f32⟩ : BufTy).Contents (Elt F)) (i : S8x512x1.Idx) :
    val_main_v2 (F := F) x0 i = val_main_v1 (F := F) x0 (idx_main_v2 i) := by
  unfold val_main_v2
  generalize val_main_v1 (F := F) x0 = y
  exact broadcastInDim_apply _ bcast_S8x512_S8x512x1_0_1 y i (idx_main_v2 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)])

-- %3 = stablehlo.sqrt %2 : tensor<8x512x1xf32>
def val_main_v3 (x0 : (⟨S8x512x256, .f32⟩ : BufTy).Contents (Elt F)) : (⟨S8x512x1, .f32⟩ : BufTy).Contents (Elt F) :=
  Host.sqrt (val_main_v2 (F := F) x0)
theorem val_main_v3_apply (x0 : (⟨S8x512x256, .f32⟩ : BufTy).Contents (Elt F)) (i : S8x512x1.Idx) :
    val_main_v3 (F := F) x0 i = FloatOps.hostUnary .sqrt (val_main_v2 (F := F) x0 i) := rfl

-- %cst_0 = stablehlo.constant dense<9.99999993E-9> : tensor<f32>
def val_main_cst_0 : (⟨S_, .f32⟩ : BufTy).Contents (Elt F) :=
  constant S_ .f32 0x322BCC77#32
theorem val_main_cst_0_apply (i : S_.Idx) :
    val_main_cst_0 (F := F) i = FloatOps.ofBits .f32 0x322BCC77#32 := rfl

-- %4 = stablehlo.broadcast_in_dim %cst_0, dims = [] : (tensor<f32>) -> tensor<8x512x1xf32>
def val_main_v4 : (⟨S8x512x1, .f32⟩ : BufTy).Contents (Elt F) :=
  broadcastInDim S8x512x1 ![] bcast_S_S8x512x1 (val_main_cst_0 (F := F))
abbrev idx_main_v4 (i : S8x512x1.Idx) : S_.Idx := fun a => a.elim0
theorem val_main_v4_apply (i : S8x512x1.Idx) :
    val_main_v4 (F := F) i = val_main_cst_0 (F := F) (idx_main_v4 i) := by
  unfold val_main_v4
  generalize val_main_cst_0 (F := F) = y
  exact broadcastInDim_apply _ bcast_S_S8x512x1 y i (idx_main_v4 i) (fun a => a.elim0)

-- %5 = stablehlo.maximum %3, %4 : tensor<8x512x1xf32>
def val_main_v5 (x0 : (⟨S8x512x256, .f32⟩ : BufTy).Contents (Elt F)) : (⟨S8x512x1, .f32⟩ : BufTy).Contents (Elt F) :=
  maximumf (val_main_v3 (F := F) x0) (val_main_v4 (F := F))
theorem val_main_v5_apply (x0 : (⟨S8x512x256, .f32⟩ : BufTy).Contents (Elt F)) (i : S8x512x1.Idx) :
    val_main_v5 (F := F) x0 i = FloatOps.maximumf (val_main_v3 (F := F) x0 i) (val_main_v4 (F := F) i) := rfl

-- %6 = stablehlo.broadcast_in_dim %5, dims = [0, 1, 2] : (tensor<8x512x1xf32>) -> tensor<8x512x256xf32>
def val_main_v6 (x0 : (⟨S8x512x256, .f32⟩ : BufTy).Contents (Elt F)) : (⟨S8x512x256, .f32⟩ : BufTy).Contents (Elt F) :=
  broadcastInDim S8x512x256 ![0, 1, 2] bcast_S8x512x1_S8x512x256_0_1_2 (val_main_v5 (F := F) x0)
abbrev idx_main_v6 (i : S8x512x256.Idx) : S8x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v6_apply (x0 : (⟨S8x512x256, .f32⟩ : BufTy).Contents (Elt F)) (i : S8x512x256.Idx) :
    val_main_v6 (F := F) x0 i = val_main_v5 (F := F) x0 (idx_main_v6 i) := by
  unfold val_main_v6
  generalize val_main_v5 (F := F) x0 = y
  exact broadcastInDim_apply _ bcast_S8x512x1_S8x512x256_0_1_2 y i (idx_main_v6 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

-- %7 = stablehlo.divide %arg0, %6 : tensor<8x512x256xf32>
def val_main_v7 (x0 : (⟨S8x512x256, .f32⟩ : BufTy).Contents (Elt F)) : (⟨S8x512x256, .f32⟩ : BufTy).Contents (Elt F) :=
  Host.divf (x0) (val_main_v6 (F := F) x0)
theorem val_main_v7_apply (x0 : (⟨S8x512x256, .f32⟩ : BufTy).Contents (Elt F)) (i : S8x512x256.Idx) :
    val_main_v7 (F := F) x0 i = FloatOps.hostDivf (x0 i) (val_main_v6 (F := F) x0 i) := rfl

-- %8 = stablehlo.dot_general %7, %7, batching_dims = [0] x [0], contracting_dims = [2] x [2], precision = [DEFAULT, DEFAULT] : (tensor<8x512x256xf32>, tensor<8x512x256xf32>) -> tensor<8x512x512xf32>
def val_main_v8 (x0 : (⟨S8x512x256, .f32⟩ : BufTy).Contents (Elt F)) : (⟨S8x512x512, .f32⟩ : BufTy).Contents (Elt F) :=
  Host.dotGeneral dot_S8x512x256_S8x512x256_S8x512x512_2_2_1_1_0_0 none (val_main_v7 (F := F) x0) (val_main_v7 (F := F) x0)
theorem lhs_main_v8_0 (i : S8x512x512.Idx) (q : dot_S8x512x256_S8x512x256_S8x512x512_2_2_1_1_0_0.contr.Idx) :
    (dot_S8x512x256_S8x512x256_S8x512x512_2_2_1_1_0_0.lhsIdx i q 0).val = (i 0).val := by
  unfold DotDims.lhsIdx
  rw [dif_pos (show (0 : Fin S8x512x256.rank) ∈ dot_S8x512x256_S8x512x256_S8x512x512_2_2_1_1_0_0.lhsBatch by decide)]
  rfl
theorem lhs_main_v8_1 (i : S8x512x512.Idx) (q : dot_S8x512x256_S8x512x256_S8x512x512_2_2_1_1_0_0.contr.Idx) :
    (dot_S8x512x256_S8x512x256_S8x512x512_2_2_1_1_0_0.lhsIdx i q 1).val = (i 1).val := by
  unfold DotDims.lhsIdx
  rw [dif_neg (show ¬(1 : Fin S8x512x256.rank) ∈ dot_S8x512x256_S8x512x256_S8x512x512_2_2_1_1_0_0.lhsBatch by decide), dif_pos (show (1 : Fin S8x512x256.rank) ∈ dot_S8x512x256_S8x512x256_S8x512x512_2_2_1_1_0_0.lhsNonContracting by decide)]
  rfl
theorem lhs_main_v8_2 (i : S8x512x512.Idx) (q : dot_S8x512x256_S8x512x256_S8x512x512_2_2_1_1_0_0.contr.Idx) :
    (dot_S8x512x256_S8x512x256_S8x512x512_2_2_1_1_0_0.lhsIdx i q 2).val = (q ⟨0, by decide⟩).val :=
  dot_S8x512x256_S8x512x256_S8x512x512_2_2_1_1_0_0.lhsIdx_val_of_single rfl i q
theorem rhs_main_v8_0 (i : S8x512x512.Idx) (q : dot_S8x512x256_S8x512x256_S8x512x512_2_2_1_1_0_0.contr.Idx) :
    (dot_S8x512x256_S8x512x256_S8x512x512_2_2_1_1_0_0.rhsIdx i q 0).val = (i 0).val := by
  unfold DotDims.rhsIdx
  rw [dif_pos (show (0 : Fin S8x512x256.rank) ∈ dot_S8x512x256_S8x512x256_S8x512x512_2_2_1_1_0_0.rhsBatch by decide)]
  rfl
theorem rhs_main_v8_1 (i : S8x512x512.Idx) (q : dot_S8x512x256_S8x512x256_S8x512x512_2_2_1_1_0_0.contr.Idx) :
    (dot_S8x512x256_S8x512x256_S8x512x512_2_2_1_1_0_0.rhsIdx i q 1).val = (i 2).val := by
  unfold DotDims.rhsIdx
  rw [dif_neg (show ¬(1 : Fin S8x512x256.rank) ∈ dot_S8x512x256_S8x512x256_S8x512x512_2_2_1_1_0_0.rhsBatch by decide), dif_pos (show (1 : Fin S8x512x256.rank) ∈ dot_S8x512x256_S8x512x256_S8x512x512_2_2_1_1_0_0.rhsNonContracting by decide)]
  rfl
theorem rhs_main_v8_2 (i : S8x512x512.Idx) (q : dot_S8x512x256_S8x512x256_S8x512x512_2_2_1_1_0_0.contr.Idx) :
    (dot_S8x512x256_S8x512x256_S8x512x512_2_2_1_1_0_0.rhsIdx i q 2).val = (q ⟨0, by decide⟩).val :=
  dot_S8x512x256_S8x512x256_S8x512x512_2_2_1_1_0_0.rhsIdx_val_of_single rfl i q
abbrev lidx_main_v8 (i : S8x512x512.Idx) (k : Fin 256) : S8x512x256.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v8 (i : S8x512x512.Idx) (k : Fin 256) : S8x512x256.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v8_apply (x0 : (⟨S8x512x256, .f32⟩ : BufTy).Contents (Elt Ideal)) (i : S8x512x512.Idx) :
    val_main_v8 (F := Ideal) x0 i = ∑ k : Fin 256, (val_main_v7 (F := Ideal) x0) (lidx_main_v8 i k) * (val_main_v7 (F := Ideal) x0) (ridx_main_v8 i k) := by
  unfold val_main_v8
  generalize val_main_v7 (F := Ideal) x0 = y0
  simp only [Host.dotGeneral]
  rw [Ideal.dotGeneral_apply, ← Equiv.sum_comp (ValueIdx.contrEquiv1 dot_S8x512x256_S8x512x256_S8x512x512_2_2_1_1_0_0 256 rfl rfl).symm]
  refine Finset.sum_congr rfl fun k _ => ?_
  have hk := ValueIdx.contrEquiv1_symm_val dot_S8x512x256_S8x512x256_S8x512x512_2_2_1_1_0_0 256 rfl rfl k
  have el : dot_S8x512x256_S8x512x256_S8x512x512_2_2_1_1_0_0.lhsIdx i ((ValueIdx.contrEquiv1 dot_S8x512x256_S8x512x256_S8x512x512_2_2_1_1_0_0 256 rfl rfl).symm k) = lidx_main_v8 i k := funext fun a => Fin.ext (by
    match a with
    | ⟨0, _⟩ => exact lhs_main_v8_0 _ _
    | ⟨1, _⟩ => exact lhs_main_v8_1 _ _
    | ⟨2, _⟩ => exact (lhs_main_v8_2 _ _).trans hk)
  have er : dot_S8x512x256_S8x512x256_S8x512x512_2_2_1_1_0_0.rhsIdx i ((ValueIdx.contrEquiv1 dot_S8x512x256_S8x512x256_S8x512x512_2_2_1_1_0_0 256 rfl rfl).symm k) = ridx_main_v8 i k := funext fun a => Fin.ext (by
    match a with
    | ⟨0, _⟩ => exact rhs_main_v8_0 _ _
    | ⟨1, _⟩ => exact rhs_main_v8_1 _ _
    | ⟨2, _⟩ => exact (rhs_main_v8_2 _ _).trans hk)
  rw [el, er]

-- %cst_1 = stablehlo.constant dense<-1.000000e+00> : tensor<f32>
def val_main_cst_1 : (⟨S_, .f32⟩ : BufTy).Contents (Elt F) :=
  constant S_ .f32 0xBF800000#32
theorem val_main_cst_1_apply (i : S_.Idx) :
    val_main_cst_1 (F := F) i = FloatOps.ofBits .f32 0xBF800000#32 := rfl

-- %cst_2 = stablehlo.constant dense<1.000000e+00> : tensor<f32>
def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

-- @clip's %0 = stablehlo.convert %arg1 : tensor<f32>, in %9 = func.call @clip(…) (record main_call0)
def val_main_call0_v0 : (⟨S_, .f32⟩ : BufTy).Contents (Elt F) :=
  id (val_main_cst_1 (F := F))
theorem val_main_call0_v0_apply (i : S_.Idx) :
    val_main_call0_v0 (F := F) i = (val_main_cst_1 (F := F) i) := rfl

-- @clip's %1 = stablehlo.broadcast_in_dim %0, dims = [] : (tensor<f32>) -> tensor<8x512x512xf32>, in %9 = func.call @clip(…) (record main_call0)
def val_main_call0_v1 : (⟨S8x512x512, .f32⟩ : BufTy).Contents (Elt F) :=
  broadcastInDim S8x512x512 ![] bcast_S_S8x512x512 (val_main_call0_v0 (F := F))
abbrev idx_main_call0_v1 (i : S8x512x512.Idx) : S_.Idx := fun a => a.elim0
theorem val_main_call0_v1_apply (i : S8x512x512.Idx) :
    val_main_call0_v1 (F := F) i = val_main_call0_v0 (F := F) (idx_main_call0_v1 i) := by
  unfold val_main_call0_v1
  generalize val_main_call0_v0 (F := F) = y
  exact broadcastInDim_apply _ bcast_S_S8x512x512 y i (idx_main_call0_v1 i) (fun a => a.elim0)

-- @clip's %2 = stablehlo.maximum %1, %arg0 : tensor<8x512x512xf32>, in %9 = func.call @clip(…) (record main_call0)
def val_main_call0_v2 (x0 : (⟨S8x512x256, .f32⟩ : BufTy).Contents (Elt F)) : (⟨S8x512x512, .f32⟩ : BufTy).Contents (Elt F) :=
  maximumf (val_main_call0_v1 (F := F)) (val_main_v8 (F := F) x0)
theorem val_main_call0_v2_apply (x0 : (⟨S8x512x256, .f32⟩ : BufTy).Contents (Elt F)) (i : S8x512x512.Idx) :
    val_main_call0_v2 (F := F) x0 i = FloatOps.maximumf (val_main_call0_v1 (F := F) i) (val_main_v8 (F := F) x0 i) := rfl

-- @clip's %3 = stablehlo.convert %arg2 : tensor<f32>, in %9 = func.call @clip(…) (record main_call0)
def val_main_call0_v3 : (⟨S_, .f32⟩ : BufTy).Contents (Elt F) :=
  id (val_main_cst_2 (F := F))
theorem val_main_call0_v3_apply (i : S_.Idx) :
    val_main_call0_v3 (F := F) i = (val_main_cst_2 (F := F) i) := rfl

-- @clip's %4 = stablehlo.broadcast_in_dim %3, dims = [] : (tensor<f32>) -> tensor<8x512x512xf32>, in %9 = func.call @clip(…) (record main_call0)
def val_main_call0_v4 : (⟨S8x512x512, .f32⟩ : BufTy).Contents (Elt F) :=
  broadcastInDim S8x512x512 ![] bcast_S_S8x512x512 (val_main_call0_v3 (F := F))
abbrev idx_main_call0_v4 (i : S8x512x512.Idx) : S_.Idx := fun a => a.elim0
theorem val_main_call0_v4_apply (i : S8x512x512.Idx) :
    val_main_call0_v4 (F := F) i = val_main_call0_v3 (F := F) (idx_main_call0_v4 i) := by
  unfold val_main_call0_v4
  generalize val_main_call0_v3 (F := F) = y
  exact broadcastInDim_apply _ bcast_S_S8x512x512 y i (idx_main_call0_v4 i) (fun a => a.elim0)

-- %9 = func.call @clip(…) (record main_call0) result 0: @clip's %5 = stablehlo.minimum %4, %2 : tensor<8x512x512xf32>
def val_main_v9 (x0 : (⟨S8x512x256, .f32⟩ : BufTy).Contents (Elt F)) : (⟨S8x512x512, .f32⟩ : BufTy).Contents (Elt F) :=
  minimumf (val_main_call0_v4 (F := F)) (val_main_call0_v2 (F := F) x0)
theorem val_main_v9_apply (x0 : (⟨S8x512x256, .f32⟩ : BufTy).Contents (Elt F)) (i : S8x512x512.Idx) :
    val_main_v9 (F := F) x0 i = FloatOps.minimumf (val_main_call0_v4 (F := F) i) (val_main_call0_v2 (F := F) x0 i) := rfl

-- %10 = stablehlo.abs %9 : tensor<8x512x512xf32>
def val_main_v10 (x0 : (⟨S8x512x256, .f32⟩ : BufTy).Contents (Elt F)) : (⟨S8x512x512, .f32⟩ : BufTy).Contents (Elt F) :=
  Host.absf (val_main_v9 (F := F) x0)
theorem val_main_v10_apply (x0 : (⟨S8x512x256, .f32⟩ : BufTy).Contents (Elt F)) (i : S8x512x512.Idx) :
    val_main_v10 (F := F) x0 i = FloatOps.hostAbsf (val_main_v9 (F := F) x0 i) := rfl

-- %cst_3 = stablehlo.constant dense<0x4A0176E0> : tensor<f32>
def val_main_cst_3 : (⟨S_, .f32⟩ : BufTy).Contents (Elt F) :=
  constant S_ .f32 0x4A0176E0#32
theorem val_main_cst_3_apply (i : S_.Idx) :
    val_main_cst_3 (F := F) i = FloatOps.ofBits .f32 0x4A0176E0#32 := rfl

-- %11 = stablehlo.broadcast_in_dim %cst_3, dims = [] : (tensor<f32>) -> tensor<8x512x512xf32>
def val_main_v11 : (⟨S8x512x512, .f32⟩ : BufTy).Contents (Elt F) :=
  broadcastInDim S8x512x512 ![] bcast_S_S8x512x512 (val_main_cst_3 (F := F))
abbrev idx_main_v11 (i : S8x512x512.Idx) : S_.Idx := fun a => a.elim0
theorem val_main_v11_apply (i : S8x512x512.Idx) :
    val_main_v11 (F := F) i = val_main_cst_3 (F := F) (idx_main_v11 i) := by
  unfold val_main_v11
  generalize val_main_cst_3 (F := F) = y
  exact broadcastInDim_apply _ bcast_S_S8x512x512 y i (idx_main_v11 i) (fun a => a.elim0)

-- %12 = stablehlo.multiply %11, %10 : tensor<8x512x512xf32>
def val_main_v12 (x0 : (⟨S8x512x256, .f32⟩ : BufTy).Contents (Elt F)) : (⟨S8x512x512, .f32⟩ : BufTy).Contents (Elt F) :=
  mulf (val_main_v11 (F := F)) (val_main_v10 (F := F) x0)
theorem val_main_v12_apply (x0 : (⟨S8x512x256, .f32⟩ : BufTy).Contents (Elt F)) (i : S8x512x512.Idx) :
    val_main_v12 (F := F) x0 i = FloatOps.mulf (val_main_v11 (F := F) i) (val_main_v10 (F := F) x0 i) := rfl

-- %cst_4 = stablehlo.constant dense<0x4B6FAC98> : tensor<f32>
def val_main_cst_4 : (⟨S_, .f32⟩ : BufTy).Contents (Elt F) :=
  constant S_ .f32 0x4B6FAC98#32
theorem val_main_cst_4_apply (i : S_.Idx) :
    val_main_cst_4 (F := F) i = FloatOps.ofBits .f32 0x4B6FAC98#32 := rfl

-- %13 = stablehlo.broadcast_in_dim %cst_4, dims = [] : (tensor<f32>) -> tensor<8x512x512xf32>
def val_main_v13 : (⟨S8x512x512, .f32⟩ : BufTy).Contents (Elt F) :=
  broadcastInDim S8x512x512 ![] bcast_S_S8x512x512 (val_main_cst_4 (F := F))
abbrev idx_main_v13 (i : S8x512x512.Idx) : S_.Idx := fun a => a.elim0
theorem val_main_v13_apply (i : S8x512x512.Idx) :
    val_main_v13 (F := F) i = val_main_cst_4 (F := F) (idx_main_v13 i) := by
  unfold val_main_v13
  generalize val_main_cst_4 (F := F) = y
  exact broadcastInDim_apply _ bcast_S_S8x512x512 y i (idx_main_v13 i) (fun a => a.elim0)

-- %14 = stablehlo.subtract %13, %12 : tensor<8x512x512xf32>
def val_main_v14 (x0 : (⟨S8x512x256, .f32⟩ : BufTy).Contents (Elt F)) : (⟨S8x512x512, .f32⟩ : BufTy).Contents (Elt F) :=
  subf (val_main_v13 (F := F)) (val_main_v12 (F := F) x0)
theorem val_main_v14_apply (x0 : (⟨S8x512x256, .f32⟩ : BufTy).Contents (Elt F)) (i : S8x512x512.Idx) :
    val_main_v14 (F := F) x0 i = FloatOps.subf (val_main_v13 (F := F) i) (val_main_v12 (F := F) x0 i) := rfl

-- %15 = stablehlo.multiply %10, %10 : tensor<8x512x512xf32>
def val_main_v15 (x0 : (⟨S8x512x256, .f32⟩ : BufTy).Contents (Elt F)) : (⟨S8x512x512, .f32⟩ : BufTy).Contents (Elt F) :=
  mulf (val_main_v10 (F := F) x0) (val_main_v10 (F := F) x0)
theorem val_main_v15_apply (x0 : (⟨S8x512x256, .f32⟩ : BufTy).Contents (Elt F)) (i : S8x512x512.Idx) :
    val_main_v15 (F := F) x0 i = FloatOps.mulf (val_main_v10 (F := F) x0 i) (val_main_v10 (F := F) x0 i) := rfl

-- %cst_5 = stablehlo.constant dense<7.426100e+05> : tensor<f32>
def val_main_cst_5 : (⟨S_, .f32⟩ : BufTy).Contents (Elt F) :=
  constant S_ .f32 0x49354D20#32
theorem val_main_cst_5_apply (i : S_.Idx) :
    val_main_cst_5 (F := F) i = FloatOps.ofBits .f32 0x49354D20#32 := rfl

-- %16 = stablehlo.broadcast_in_dim %cst_5, dims = [] : (tensor<f32>) -> tensor<8x512x512xf32>
def val_main_v16 : (⟨S8x512x512, .f32⟩ : BufTy).Contents (Elt F) :=
  broadcastInDim S8x512x512 ![] bcast_S_S8x512x512 (val_main_cst_5 (F := F))
abbrev idx_main_v16 (i : S8x512x512.Idx) : S_.Idx := fun a => a.elim0
theorem val_main_v16_apply (i : S8x512x512.Idx) :
    val_main_v16 (F := F) i = val_main_cst_5 (F := F) (idx_main_v16 i) := by
  unfold val_main_v16
  generalize val_main_cst_5 (F := F) = y
  exact broadcastInDim_apply _ bcast_S_S8x512x512 y i (idx_main_v16 i) (fun a => a.elim0)

-- %17 = stablehlo.multiply %16, %15 : tensor<8x512x512xf32>
def val_main_v17 (x0 : (⟨S8x512x256, .f32⟩ : BufTy).Contents (Elt F)) : (⟨S8x512x512, .f32⟩ : BufTy).Contents (Elt F) :=
  mulf (val_main_v16 (F := F)) (val_main_v15 (F := F) x0)
theorem val_main_v17_apply (x0 : (⟨S8x512x256, .f32⟩ : BufTy).Contents (Elt F)) (i : S8x512x512.Idx) :
    val_main_v17 (F := F) x0 i = FloatOps.mulf (val_main_v16 (F := F) i) (val_main_v15 (F := F) x0 i) := rfl

-- %18 = stablehlo.add %14, %17 : tensor<8x512x512xf32>
def val_main_v18 (x0 : (⟨S8x512x256, .f32⟩ : BufTy).Contents (Elt F)) : (⟨S8x512x512, .f32⟩ : BufTy).Contents (Elt F) :=
  addf (val_main_v14 (F := F) x0) (val_main_v17 (F := F) x0)
theorem val_main_v18_apply (x0 : (⟨S8x512x256, .f32⟩ : BufTy).Contents (Elt F)) (i : S8x512x512.Idx) :
    val_main_v18 (F := F) x0 i = FloatOps.addf (val_main_v14 (F := F) x0 i) (val_main_v17 (F := F) x0 i) := rfl

-- %19 = stablehlo.multiply %10, %10 : tensor<8x512x512xf32>
def val_main_v19 (x0 : (⟨S8x512x256, .f32⟩ : BufTy).Contents (Elt F)) : (⟨S8x512x512, .f32⟩ : BufTy).Contents (Elt F) :=
  mulf (val_main_v10 (F := F) x0) (val_main_v10 (F := F) x0)
theorem val_main_v19_apply (x0 : (⟨S8x512x256, .f32⟩ : BufTy).Contents (Elt F)) (i : S8x512x512.Idx) :
    val_main_v19 (F := F) x0 i = FloatOps.mulf (val_main_v10 (F := F) x0 i) (val_main_v10 (F := F) x0 i) := rfl

-- %20 = stablehlo.multiply %19, %10 : tensor<8x512x512xf32>
def val_main_v20 (x0 : (⟨S8x512x256, .f32⟩ : BufTy).Contents (Elt F)) : (⟨S8x512x512, .f32⟩ : BufTy).Contents (Elt F) :=
  mulf (val_main_v19 (F := F) x0) (val_main_v10 (F := F) x0)
theorem val_main_v20_apply (x0 : (⟨S8x512x256, .f32⟩ : BufTy).Contents (Elt F)) (i : S8x512x512.Idx) :
    val_main_v20 (F := F) x0 i = FloatOps.mulf (val_main_v19 (F := F) x0 i) (val_main_v10 (F := F) x0 i) := rfl

-- %cst_6 = stablehlo.constant dense<1.872930e+05> : tensor<f32>
def val_main_cst_6 : (⟨S_, .f32⟩ : BufTy).Contents (Elt F) :=
  constant S_ .f32 0x4836E740#32
theorem val_main_cst_6_apply (i : S_.Idx) :
    val_main_cst_6 (F := F) i = FloatOps.ofBits .f32 0x4836E740#32 := rfl

-- %21 = stablehlo.broadcast_in_dim %cst_6, dims = [] : (tensor<f32>) -> tensor<8x512x512xf32>
def val_main_v21 : (⟨S8x512x512, .f32⟩ : BufTy).Contents (Elt F) :=
  broadcastInDim S8x512x512 ![] bcast_S_S8x512x512 (val_main_cst_6 (F := F))
abbrev idx_main_v21 (i : S8x512x512.Idx) : S_.Idx := fun a => a.elim0
theorem val_main_v21_apply (i : S8x512x512.Idx) :
    val_main_v21 (F := F) i = val_main_cst_6 (F := F) (idx_main_v21 i) := by
  unfold val_main_v21
  generalize val_main_cst_6 (F := F) = y
  exact broadcastInDim_apply _ bcast_S_S8x512x512 y i (idx_main_v21 i) (fun a => a.elim0)

-- %22 = stablehlo.multiply %21, %20 : tensor<8x512x512xf32>
def val_main_v22 (x0 : (⟨S8x512x256, .f32⟩ : BufTy).Contents (Elt F)) : (⟨S8x512x512, .f32⟩ : BufTy).Contents (Elt F) :=
  mulf (val_main_v21 (F := F)) (val_main_v20 (F := F) x0)
theorem val_main_v22_apply (x0 : (⟨S8x512x256, .f32⟩ : BufTy).Contents (Elt F)) (i : S8x512x512.Idx) :
    val_main_v22 (F := F) x0 i = FloatOps.mulf (val_main_v21 (F := F) i) (val_main_v20 (F := F) x0 i) := rfl

-- %23 = stablehlo.subtract %18, %22 : tensor<8x512x512xf32>
def val_main_v23 (x0 : (⟨S8x512x256, .f32⟩ : BufTy).Contents (Elt F)) : (⟨S8x512x512, .f32⟩ : BufTy).Contents (Elt F) :=
  subf (val_main_v18 (F := F) x0) (val_main_v22 (F := F) x0)
theorem val_main_v23_apply (x0 : (⟨S8x512x256, .f32⟩ : BufTy).Contents (Elt F)) (i : S8x512x512.Idx) :
    val_main_v23 (F := F) x0 i = FloatOps.subf (val_main_v18 (F := F) x0 i) (val_main_v22 (F := F) x0 i) := rfl

-- %cst_7 = stablehlo.constant dense<1.000000e+07> : tensor<f32>
def val_main_cst_7 : (⟨S_, .f32⟩ : BufTy).Contents (Elt F) :=
  constant S_ .f32 0x4B189680#32
theorem val_main_cst_7_apply (i : S_.Idx) :
    val_main_cst_7 (F := F) i = FloatOps.ofBits .f32 0x4B189680#32 := rfl

-- %24 = stablehlo.broadcast_in_dim %cst_7, dims = [] : (tensor<f32>) -> tensor<8x512x512xf32>
def val_main_v24 : (⟨S8x512x512, .f32⟩ : BufTy).Contents (Elt F) :=
  broadcastInDim S8x512x512 ![] bcast_S_S8x512x512 (val_main_cst_7 (F := F))
abbrev idx_main_v24 (i : S8x512x512.Idx) : S_.Idx := fun a => a.elim0
theorem val_main_v24_apply (i : S8x512x512.Idx) :
    val_main_v24 (F := F) i = val_main_cst_7 (F := F) (idx_main_v24 i) := by
  unfold val_main_v24
  generalize val_main_cst_7 (F := F) = y
  exact broadcastInDim_apply _ bcast_S_S8x512x512 y i (idx_main_v24 i) (fun a => a.elim0)

-- %25 = stablehlo.divide %23, %24 : tensor<8x512x512xf32>
def val_main_v25 (x0 : (⟨S8x512x256, .f32⟩ : BufTy).Contents (Elt F)) : (⟨S8x512x512, .f32⟩ : BufTy).Contents (Elt F) :=
  Host.divf (val_main_v23 (F := F) x0) (val_main_v24 (F := F))
theorem val_main_v25_apply (x0 : (⟨S8x512x256, .f32⟩ : BufTy).Contents (Elt F)) (i : S8x512x512.Idx) :
    val_main_v25 (F := F) x0 i = FloatOps.hostDivf (val_main_v23 (F := F) x0 i) (val_main_v24 (F := F) i) := rfl

-- %cst_8 = stablehlo.constant dense<1.000000e+00> : tensor<f32>
def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

-- %26 = stablehlo.broadcast_in_dim %cst_8, dims = [] : (tensor<f32>) -> tensor<8x512x512xf32>
def val_main_v26 : (⟨S8x512x512, .f32⟩ : BufTy).Contents (Elt F) :=
  broadcastInDim S8x512x512 ![] bcast_S_S8x512x512 (val_main_cst_8 (F := F))
abbrev idx_main_v26 (i : S8x512x512.Idx) : S_.Idx := fun a => a.elim0
theorem val_main_v26_apply (i : S8x512x512.Idx) :
    val_main_v26 (F := F) i = val_main_cst_8 (F := F) (idx_main_v26 i) := by
  unfold val_main_v26
  generalize val_main_cst_8 (F := F) = y
  exact broadcastInDim_apply _ bcast_S_S8x512x512 y i (idx_main_v26 i) (fun a => a.elim0)

-- %27 = stablehlo.subtract %26, %10 : tensor<8x512x512xf32>
def val_main_v27 (x0 : (⟨S8x512x256, .f32⟩ : BufTy).Contents (Elt F)) : (⟨S8x512x512, .f32⟩ : BufTy).Contents (Elt F) :=
  subf (val_main_v26 (F := F)) (val_main_v10 (F := F) x0)
theorem val_main_v27_apply (x0 : (⟨S8x512x256, .f32⟩ : BufTy).Contents (Elt F)) (i : S8x512x512.Idx) :
    val_main_v27 (F := F) x0 i = FloatOps.subf (val_main_v26 (F := F) i) (val_main_v10 (F := F) x0 i) := rfl

-- %28 = stablehlo.sqrt %27 : tensor<8x512x512xf32>
def val_main_v28 (x0 : (⟨S8x512x256, .f32⟩ : BufTy).Contents (Elt F)) : (⟨S8x512x512, .f32⟩ : BufTy).Contents (Elt F) :=
  Host.sqrt (val_main_v27 (F := F) x0)
theorem val_main_v28_apply (x0 : (⟨S8x512x256, .f32⟩ : BufTy).Contents (Elt F)) (i : S8x512x512.Idx) :
    val_main_v28 (F := F) x0 i = FloatOps.hostUnary .sqrt (val_main_v27 (F := F) x0 i) := rfl

-- %29 = stablehlo.multiply %28, %25 : tensor<8x512x512xf32>
def val_main_v29 (x0 : (⟨S8x512x256, .f32⟩ : BufTy).Contents (Elt F)) : (⟨S8x512x512, .f32⟩ : BufTy).Contents (Elt F) :=
  mulf (val_main_v28 (F := F) x0) (val_main_v25 (F := F) x0)
theorem val_main_v29_apply (x0 : (⟨S8x512x256, .f32⟩ : BufTy).Contents (Elt F)) (i : S8x512x512.Idx) :
    val_main_v29 (F := F) x0 i = FloatOps.mulf (val_main_v28 (F := F) x0 i) (val_main_v25 (F := F) x0 i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %30 = stablehlo.broadcast_in_dim %cst_9, dims = [] : (tensor<f32>) -> tensor<8x512x512xf32>
def val_main_v30 : (⟨S8x512x512, .f32⟩ : BufTy).Contents (Elt F) :=
  broadcastInDim S8x512x512 ![] bcast_S_S8x512x512 (val_main_cst_9 (F := F))
abbrev idx_main_v30 (i : S8x512x512.Idx) : S_.Idx := fun a => a.elim0
theorem val_main_v30_apply (i : S8x512x512.Idx) :
    val_main_v30 (F := F) i = val_main_cst_9 (F := F) (idx_main_v30 i) := by
  unfold val_main_v30
  generalize val_main_cst_9 (F := F) = y
  exact broadcastInDim_apply _ bcast_S_S8x512x512 y i (idx_main_v30 i) (fun a => a.elim0)

-- %31 = stablehlo.compare GE, %9, %30, FLOAT : (tensor<8x512x512xf32>, tensor<8x512x512xf32>) -> tensor<8x512x512xi1>
def val_main_v31 (x0 : (⟨S8x512x256, .f32⟩ : BufTy).Contents (Elt F)) : (⟨S8x512x512, .i1⟩ : BufTy).Contents (Elt F) :=
  cmpf .oge (val_main_v9 (F := F) x0) (val_main_v30 (F := F))
theorem val_main_v31_apply (x0 : (⟨S8x512x256, .f32⟩ : BufTy).Contents (Elt F)) (i : S8x512x512.Idx) :
    val_main_v31 (F := F) x0 i = FloatOps.cmpf .oge (val_main_v9 (F := F) x0 i) (val_main_v30 (F := F) i) := rfl

-- %cst_10 = stablehlo.constant dense<-1.000000e+00> : tensor<f32>
def val_main_cst_10 : (⟨S_, .f32⟩ : BufTy).Contents (Elt F) :=
  constant S_ .f32 0xBF800000#32
theorem val_main_cst_10_apply (i : S_.Idx) :
    val_main_cst_10 (F := F) i = FloatOps.ofBits .f32 0xBF800000#32 := rfl

-- %32 = chlo.acos %cst_10 : tensor<f32> -> tensor<f32>
def val_main_v32 : (⟨S_, .f32⟩ : BufTy).Contents (Elt F) :=
  Host.acos (val_main_cst_10 (F := F))
theorem val_main_v32_apply (i : S_.Idx) :
    val_main_v32 (F := F) i = FloatOps.hostUnary .acos (val_main_cst_10 (F := F) i) := rfl

-- %33 = stablehlo.convert %32 : tensor<f32>
def val_main_v33 : (⟨S_, .f32⟩ : BufTy).Contents (Elt F) :=
  id (val_main_v32 (F := F))
theorem val_main_v33_apply (i : S_.Idx) :
    val_main_v33 (F := F) i = (val_main_v32 (F := F) i) := rfl

-- %34 = stablehlo.broadcast_in_dim %33, dims = [] : (tensor<f32>) -> tensor<8x512x512xf32>
def val_main_v34 : (⟨S8x512x512, .f32⟩ : BufTy).Contents (Elt F) :=
  broadcastInDim S8x512x512 ![] bcast_S_S8x512x512 (val_main_v33 (F := F))
abbrev idx_main_v34 (i : S8x512x512.Idx) : S_.Idx := fun a => a.elim0
theorem val_main_v34_apply (i : S8x512x512.Idx) :
    val_main_v34 (F := F) i = val_main_v33 (F := F) (idx_main_v34 i) := by
  unfold val_main_v34
  generalize val_main_v33 (F := F) = y
  exact broadcastInDim_apply _ bcast_S_S8x512x512 y i (idx_main_v34 i) (fun a => a.elim0)

-- %35 = stablehlo.subtract %34, %29 : tensor<8x512x512xf32>
def val_main_v35 (x0 : (⟨S8x512x256, .f32⟩ : BufTy).Contents (Elt F)) : (⟨S8x512x512, .f32⟩ : BufTy).Contents (Elt F) :=
  subf (val_main_v34 (F := F)) (val_main_v29 (F := F) x0)
theorem val_main_v35_apply (x0 : (⟨S8x512x256, .f32⟩ : BufTy).Contents (Elt F)) (i : S8x512x512.Idx) :
    val_main_v35 (F := F) x0 i = FloatOps.subf (val_main_v34 (F := F) i) (val_main_v29 (F := F) x0 i) := rfl

-- %36 = func.call @_where(…) (record main_call1) result 0: @_where's %0 = stablehlo.select %arg0, %arg1, %arg2 : tensor<8x512x512xi1>, tensor<8x512x512xf32>
def val_main_v36 (x0 : (⟨S8x512x256, .f32⟩ : BufTy).Contents (Elt F)) : (⟨S8x512x512, .f32⟩ : BufTy).Contents (Elt F) :=
  select (val_main_v31 (F := F) x0) (val_main_v29 (F := F) x0) (val_main_v35 (F := F) x0)
theorem val_main_v36_apply (x0 : (⟨S8x512x256, .f32⟩ : BufTy).Contents (Elt F)) (i : S8x512x512.Idx) :
    val_main_v36 (F := F) x0 i = Scalar.select (val_main_v31 (F := F) x0 i) (val_main_v29 (F := F) x0 i) (val_main_v35 (F := F) x0 i) := rfl

-- %cst_11 = stablehlo.constant dense<-1.000000e+00> : tensor<f32>
def val_main_cst_11 : (⟨S_, .f32⟩ : BufTy).Contents (Elt F) :=
  constant S_ .f32 0xBF800000#32
theorem val_main_cst_11_apply (i : S_.Idx) :
    val_main_cst_11 (F := F) i = FloatOps.ofBits .f32 0xBF800000#32 := rfl

-- %37 = chlo.acos %cst_11 : tensor<f32> -> tensor<f32>
def val_main_v37 : (⟨S_, .f32⟩ : BufTy).Contents (Elt F) :=
  Host.acos (val_main_cst_11 (F := F))
theorem val_main_v37_apply (i : S_.Idx) :
    val_main_v37 (F := F) i = FloatOps.hostUnary .acos (val_main_cst_11 (F := F) i) := rfl

-- %38 = stablehlo.convert %37 : tensor<f32>
def val_main_v38 : (⟨S_, .f32⟩ : BufTy).Contents (Elt F) :=
  id (val_main_v37 (F := F))
theorem val_main_v38_apply (i : S_.Idx) :
    val_main_v38 (F := F) i = (val_main_v37 (F := F) i) := rfl

-- %39 = stablehlo.broadcast_in_dim %38, dims = [] : (tensor<f32>) -> tensor<8x512x512xf32>
def val_main_v39 : (⟨S8x512x512, .f32⟩ : BufTy).Contents (Elt F) :=
  broadcastInDim S8x512x512 ![] bcast_S_S8x512x512 (val_main_v38 (F := F))
abbrev idx_main_v39 (i : S8x512x512.Idx) : S_.Idx := fun a => a.elim0
theorem val_main_v39_apply (i : S8x512x512.Idx) :
    val_main_v39 (F := F) i = val_main_v38 (F := F) (idx_main_v39 i) := by
  unfold val_main_v39
  generalize val_main_v38 (F := F) = y
  exact broadcastInDim_apply _ bcast_S_S8x512x512 y i (idx_main_v39 i) (fun a => a.elim0)

-- %40 = stablehlo.divide %36, %39 : tensor<8x512x512xf32>
def val_main_v40 (x0 : (⟨S8x512x256, .f32⟩ : BufTy).Contents (Elt F)) : (⟨S8x512x512, .f32⟩ : BufTy).Contents (Elt F) :=
  Host.divf (val_main_v36 (F := F) x0) (val_main_v39 (F := F))
theorem val_main_v40_apply (x0 : (⟨S8x512x256, .f32⟩ : BufTy).Contents (Elt F)) (i : S8x512x512.Idx) :
    val_main_v40 (F := F) x0 i = FloatOps.hostDivf (val_main_v36 (F := F) x0 i) (val_main_v39 (F := F) i) := rfl

-- %cst_12 = stablehlo.constant dense<1.000000e+00> : tensor<f32>
def val_main_cst_12 : (⟨S_, .f32⟩ : BufTy).Contents (Elt F) :=
  constant S_ .f32 0x3F800000#32
theorem val_main_cst_12_apply (i : S_.Idx) :
    val_main_cst_12 (F := F) i = FloatOps.ofBits .f32 0x3F800000#32 := rfl

-- %41 = stablehlo.broadcast_in_dim %cst_12, dims = [] : (tensor<f32>) -> tensor<8x512x512xf32>
def val_main_v41 : (⟨S8x512x512, .f32⟩ : BufTy).Contents (Elt F) :=
  broadcastInDim S8x512x512 ![] bcast_S_S8x512x512 (val_main_cst_12 (F := F))
abbrev idx_main_v41 (i : S8x512x512.Idx) : S_.Idx := fun a => a.elim0
theorem val_main_v41_apply (i : S8x512x512.Idx) :
    val_main_v41 (F := F) i = val_main_cst_12 (F := F) (idx_main_v41 i) := by
  unfold val_main_v41
  generalize val_main_cst_12 (F := F) = y
  exact broadcastInDim_apply _ bcast_S_S8x512x512 y i (idx_main_v41 i) (fun a => a.elim0)

-- %42 = stablehlo.subtract %41, %40 : tensor<8x512x512xf32>
def val_main_v42 (x0 : (⟨S8x512x256, .f32⟩ : BufTy).Contents (Elt F)) : (⟨S8x512x512, .f32⟩ : BufTy).Contents (Elt F) :=
  subf (val_main_v41 (F := F)) (val_main_v40 (F := F) x0)
theorem val_main_v42_apply (x0 : (⟨S8x512x256, .f32⟩ : BufTy).Contents (Elt F)) (i : S8x512x512.Idx) :
    val_main_v42 (F := F) x0 i = FloatOps.subf (val_main_v41 (F := F) i) (val_main_v40 (F := F) x0 i) := rfl

-- %43 = stablehlo.iota dim = 0 : tensor<512xi32>
def val_main_v43 : (⟨S512, .i32⟩ : BufTy).Contents (Elt F) :=
  iotaInDim S512 32 0
theorem val_main_v43_apply (i : S512.Idx) :
    val_main_v43 (F := F) i = BitVec.ofNat 32 (i 0).val := rfl

-- %44 = stablehlo.broadcast_in_dim %43, dims = [0] : (tensor<512xi32>) -> tensor<512x1xi32>
def val_main_v44 : (⟨S512x1, .i32⟩ : BufTy).Contents (Elt F) :=
  broadcastInDim S512x1 ![0] bcast_S512_S512x1_0 (val_main_v43 (F := F))
abbrev idx_main_v44 (i : S512x1.Idx) : S512.Idx := fun a => match a with
  | ⟨0, _⟩ => ⟨(i 0).val, (i 0).isLt⟩
theorem val_main_v44_apply (i : S512x1.Idx) :
    val_main_v44 (F := F) i = val_main_v43 (F := F) (idx_main_v44 i) := by
  unfold val_main_v44
  generalize val_main_v43 (F := F) = y
  exact broadcastInDim_apply _ bcast_S512_S512x1_0 y i (idx_main_v44 i) (fun a => match a with
    | ⟨0, _⟩ => by show (i 0).val = if (512 : Nat) = 1 then 0 else (i 0).val; rw [if_neg (by decide)])

-- %45 = stablehlo.broadcast_in_dim %43, dims = [1] : (tensor<512xi32>) -> tensor<1x512xi32>
def val_main_v45 : (⟨S1x512, .i32⟩ : BufTy).Contents (Elt F) :=
  broadcastInDim S1x512 ![1] bcast_S512_S1x512_1 (val_main_v43 (F := F))
abbrev idx_main_v45 (i : S1x512.Idx) : S512.Idx := fun a => match a with
  | ⟨0, _⟩ => ⟨(i 1).val, (i 1).isLt⟩
theorem val_main_v45_apply (i : S1x512.Idx) :
    val_main_v45 (F := F) i = val_main_v43 (F := F) (idx_main_v45 i) := by
  unfold val_main_v45
  generalize val_main_v43 (F := F) = y
  exact broadcastInDim_apply _ bcast_S512_S1x512_1 y i (idx_main_v45 i) (fun a => match a with
    | ⟨0, _⟩ => by show (i 1).val = if (512 : Nat) = 1 then 0 else (i 1).val; rw [if_neg (by decide)])

-- %46 = stablehlo.broadcast_in_dim %44, dims = [0, 1] : (tensor<512x1xi32>) -> tensor<512x512xi32>
def val_main_v46 : (⟨S512x512, .i32⟩ : BufTy).Contents (Elt F) :=
  broadcastInDim S512x512 ![0, 1] bcast_S512x1_S512x512_0_1 (val_main_v44 (F := F))
abbrev idx_main_v46 (i : S512x512.Idx) : S512x1.Idx := fun a => match a with
  | ⟨0, _⟩ => ⟨(i 0).val, (i 0).isLt⟩
  | ⟨1, _⟩ => ⟨0, Nat.one_pos⟩
theorem val_main_v46_apply (i : S512x512.Idx) :
    val_main_v46 (F := F) i = val_main_v44 (F := F) (idx_main_v46 i) := by
  unfold val_main_v46
  generalize val_main_v44 (F := F) = y
  exact broadcastInDim_apply _ bcast_S512x1_S512x512_0_1 y i (idx_main_v46 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

-- %47 = stablehlo.broadcast_in_dim %45, dims = [0, 1] : (tensor<1x512xi32>) -> tensor<512x512xi32>
def val_main_v47 : (⟨S512x512, .i32⟩ : BufTy).Contents (Elt F) :=
  broadcastInDim S512x512 ![0, 1] bcast_S1x512_S512x512_0_1 (val_main_v45 (F := F))
abbrev idx_main_v47 (i : S512x512.Idx) : S1x512.Idx := fun a => match a with
  | ⟨0, _⟩ => ⟨0, Nat.one_pos⟩
  | ⟨1, _⟩ => ⟨(i 1).val, (i 1).isLt⟩
theorem val_main_v47_apply (i : S512x512.Idx) :
    val_main_v47 (F := F) i = val_main_v45 (F := F) (idx_main_v47 i) := by
  unfold val_main_v47
  generalize val_main_v45 (F := F) = y
  exact broadcastInDim_apply _ bcast_S1x512_S512x512_0_1 y i (idx_main_v47 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

-- %48 = stablehlo.subtract %46, %47 : tensor<512x512xi32>
def val_main_v48 : (⟨S512x512, .i32⟩ : BufTy).Contents (Elt F) :=
  subi (val_main_v46 (F := F)) (val_main_v47 (F := F))
theorem val_main_v48_apply (i : S512x512.Idx) :
    val_main_v48 (F := F) i = IntOp.subi (val_main_v46 (F := F) i) (val_main_v47 (F := F) i) := rfl

-- %49 = stablehlo.abs %48 : tensor<512x512xi32>
def val_main_v49 : (⟨S512x512, .i32⟩ : BufTy).Contents (Elt F) :=
  absi (val_main_v48 (F := F))
theorem val_main_v49_apply (i : S512x512.Idx) :
    val_main_v49 (F := F) i = IntOp.absi (val_main_v48 (F := F) i) := rfl

-- %c = stablehlo.constant dense<15> : tensor<i32>
def val_main_c : (⟨S_, .i32⟩ : BufTy).Contents (Elt F) :=
  constantI S_ 32 15#32
theorem val_main_c_apply (i : S_.Idx) :
    val_main_c (F := F) i = 15#32 := rfl

-- %50 = stablehlo.broadcast_in_dim %c, dims = [] : (tensor<i32>) -> tensor<512x512xi32>
def val_main_v50 : (⟨S512x512, .i32⟩ : BufTy).Contents (Elt F) :=
  broadcastInDim S512x512 ![] bcast_S_S512x512 (val_main_c (F := F))
abbrev idx_main_v50 (i : S512x512.Idx) : S_.Idx := fun a => a.elim0
theorem val_main_v50_apply (i : S512x512.Idx) :
    val_main_v50 (F := F) i = val_main_c (F := F) (idx_main_v50 i) := by
  unfold val_main_v50
  generalize val_main_c (F := F) = y
  exact broadcastInDim_apply _ bcast_S_S512x512 y i (idx_main_v50 i) (fun a => a.elim0)

-- %51 = stablehlo.compare LE, %49, %50, SIGNED : (tensor<512x512xi32>, tensor<512x512xi32>) -> tensor<512x512xi1>
def val_main_v51 : (⟨S512x512, .i1⟩ : BufTy).Contents (Elt F) :=
  cmpi .sle (val_main_v49 (F := F)) (val_main_v50 (F := F))
theorem val_main_v51_apply (i : S512x512.Idx) :
    val_main_v51 (F := F) i = IntOp.cmpi .sle (val_main_v49 (F := F) i) (val_main_v50 (F := F) i) := rfl

-- %52 = stablehlo.broadcast_in_dim %43, dims = [1] : (tensor<512xi32>) -> tensor<1x512xi32>
def val_main_v52 : (⟨S1x512, .i32⟩ : BufTy).Contents (Elt F) :=
  broadcastInDim S1x512 ![1] bcast_S512_S1x512_1 (val_main_v43 (F := F))
abbrev idx_main_v52 (i : S1x512.Idx) : S512.Idx := fun a => match a with
  | ⟨0, _⟩ => ⟨(i 1).val, (i 1).isLt⟩
theorem val_main_v52_apply (i : S1x512.Idx) :
    val_main_v52 (F := F) i = val_main_v43 (F := F) (idx_main_v52 i) := by
  unfold val_main_v52
  generalize val_main_v43 (F := F) = y
  exact broadcastInDim_apply _ bcast_S512_S1x512_1 y i (idx_main_v52 i) (fun a => match a with
    | ⟨0, _⟩ => by show (i 1).val = if (512 : Nat) = 1 then 0 else (i 1).val; rw [if_neg (by decide)])

-- %53 = stablehlo.broadcast_in_dim %arg1, dims = [0] : (tensor<8xi32>) -> tensor<8x1xi32>
def val_main_v53 (x1 : (⟨S8, .i32⟩ : BufTy).Contents (Elt F)) : (⟨S8x1, .i32⟩ : BufTy).Contents (Elt F) :=
  broadcastInDim S8x1 ![0] bcast_S8_S8x1_0 (x1)
abbrev idx_main_v53 (i : S8x1.Idx) : S8.Idx := fun a => match a with
  | ⟨0, _⟩ => ⟨(i 0).val, (i 0).isLt⟩
theorem val_main_v53_apply (x1 : (⟨S8, .i32⟩ : BufTy).Contents (Elt F)) (i : S8x1.Idx) :
    val_main_v53 (F := F) x1 i = x1 (idx_main_v53 i) := by
  unfold val_main_v53
  exact broadcastInDim_apply _ bcast_S8_S8x1_0 x1 i (idx_main_v53 i) (fun a => match a with
    | ⟨0, _⟩ => by show (i 0).val = if (8 : Nat) = 1 then 0 else (i 0).val; rw [if_neg (by decide)])

-- %54 = stablehlo.broadcast_in_dim %52, dims = [0, 1] : (tensor<1x512xi32>) -> tensor<8x512xi32>
def val_main_v54 : (⟨S8x512, .i32⟩ : BufTy).Contents (Elt F) :=
  broadcastInDim S8x512 ![0, 1] bcast_S1x512_S8x512_0_1 (val_main_v52 (F := F))
abbrev idx_main_v54 (i : S8x512.Idx) : S1x512.Idx := fun a => match a with
  | ⟨0, _⟩ => ⟨0, Nat.one_pos⟩
  | ⟨1, _⟩ => ⟨(i 1).val, (i 1).isLt⟩
theorem val_main_v54_apply (i : S8x512.Idx) :
    val_main_v54 (F := F) i = val_main_v52 (F := F) (idx_main_v54 i) := by
  unfold val_main_v54
  generalize val_main_v52 (F := F) = y
  exact broadcastInDim_apply _ bcast_S1x512_S8x512_0_1 y i (idx_main_v54 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

-- %55 = stablehlo.broadcast_in_dim %53, dims = [0, 1] : (tensor<8x1xi32>) -> tensor<8x512xi32>
def val_main_v55 (x1 : (⟨S8, .i32⟩ : BufTy).Contents (Elt F)) : (⟨S8x512, .i32⟩ : BufTy).Contents (Elt F) :=
  broadcastInDim S8x512 ![0, 1] bcast_S8x1_S8x512_0_1 (val_main_v53 (F := F) x1)
abbrev idx_main_v55 (i : S8x512.Idx) : S8x1.Idx := fun a => match a with
  | ⟨0, _⟩ => ⟨(i 0).val, (i 0).isLt⟩
  | ⟨1, _⟩ => ⟨0, Nat.one_pos⟩
theorem val_main_v55_apply (x1 : (⟨S8, .i32⟩ : BufTy).Contents (Elt F)) (i : S8x512.Idx) :
    val_main_v55 (F := F) x1 i = val_main_v53 (F := F) x1 (idx_main_v55 i) := by
  unfold val_main_v55
  generalize val_main_v53 (F := F) x1 = y
  exact broadcastInDim_apply _ bcast_S8x1_S8x512_0_1 y i (idx_main_v55 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl])

-- %56 = stablehlo.compare LT, %54, %55, SIGNED : (tensor<8x512xi32>, tensor<8x512xi32>) -> tensor<8x512xi1>
def val_main_v56 (x1 : (⟨S8, .i32⟩ : BufTy).Contents (Elt F)) : (⟨S8x512, .i1⟩ : BufTy).Contents (Elt F) :=
  cmpi .slt (val_main_v54 (F := F)) (val_main_v55 (F := F) x1)
theorem val_main_v56_apply (x1 : (⟨S8, .i32⟩ : BufTy).Contents (Elt F)) (i : S8x512.Idx) :
    val_main_v56 (F := F) x1 i = IntOp.cmpi .slt (val_main_v54 (F := F) i) (val_main_v55 (F := F) x1 i) := rfl

-- %57 = stablehlo.broadcast_in_dim %56, dims = [0, 1] : (tensor<8x512xi1>) -> tensor<8x512x1xi1>
def val_main_v57 (x1 : (⟨S8, .i32⟩ : BufTy).Contents (Elt F)) : (⟨S8x512x1, .i1⟩ : BufTy).Contents (Elt F) :=
  broadcastInDim S8x512x1 ![0, 1] bcast_S8x512_S8x512x1_0_1 (val_main_v56 (F := F) x1)
abbrev idx_main_v57 (i : S8x512x1.Idx) : S8x512.Idx := fun a => match a with
  | ⟨0, _⟩ => ⟨(i 0).val, (i 0).isLt⟩
  | ⟨1, _⟩ => ⟨(i 1).val, (i 1).isLt⟩
theorem val_main_v57_apply (x1 : (⟨S8, .i32⟩ : BufTy).Contents (Elt F)) (i : S8x512x1.Idx) :
    val_main_v57 (F := F) x1 i = val_main_v56 (F := F) x1 (idx_main_v57 i) := by
  unfold val_main_v57
  generalize val_main_v56 (F := F) x1 = y
  exact broadcastInDim_apply _ bcast_S8x512_S8x512x1_0_1 y i (idx_main_v57 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)])

-- %58 = stablehlo.broadcast_in_dim %56, dims = [0, 2] : (tensor<8x512xi1>) -> tensor<8x1x512xi1>
def val_main_v58 (x1 : (⟨S8, .i32⟩ : BufTy).Contents (Elt F)) : (⟨S8x1x512, .i1⟩ : BufTy).Contents (Elt F) :=
  broadcastInDim S8x1x512 ![0, 2] bcast_S8x512_S8x1x512_0_2 (val_main_v56 (F := F) x1)
abbrev idx_main_v58 (i : S8x1x512.Idx) : S8x512.Idx := fun a => match a with
  | ⟨0, _⟩ => ⟨(i 0).val, (i 0).isLt⟩
  | ⟨1, _⟩ => ⟨(i 2).val, (i 2).isLt⟩
theorem val_main_v58_apply (x1 : (⟨S8, .i32⟩ : BufTy).Contents (Elt F)) (i : S8x1x512.Idx) :
    val_main_v58 (F := F) x1 i = val_main_v56 (F := F) x1 (idx_main_v58 i) := by
  unfold val_main_v58
  generalize val_main_v56 (F := F) x1 = y
  exact broadcastInDim_apply _ bcast_S8x512_S8x1x512_0_2 y i (idx_main_v58 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)])

-- %59 = stablehlo.broadcast_in_dim %57, dims = [0, 1, 2] : (tensor<8x512x1xi1>) -> tensor<8x512x512xi1>
def val_main_v59 (x1 : (⟨S8, .i32⟩ : BufTy).Contents (Elt F)) : (⟨S8x512x512, .i1⟩ : BufTy).Contents (Elt F) :=
  broadcastInDim S8x512x512 ![0, 1, 2] bcast_S8x512x1_S8x512x512_0_1_2 (val_main_v57 (F := F) x1)
abbrev idx_main_v59 (i : S8x512x512.Idx) : S8x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v59_apply (x1 : (⟨S8, .i32⟩ : BufTy).Contents (Elt F)) (i : S8x512x512.Idx) :
    val_main_v59 (F := F) x1 i = val_main_v57 (F := F) x1 (idx_main_v59 i) := by
  unfold val_main_v59
  generalize val_main_v57 (F := F) x1 = y
  exact broadcastInDim_apply _ bcast_S8x512x1_S8x512x512_0_1_2 y i (idx_main_v59 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

-- %60 = stablehlo.broadcast_in_dim %58, dims = [0, 1, 2] : (tensor<8x1x512xi1>) -> tensor<8x512x512xi1>
def val_main_v60 (x1 : (⟨S8, .i32⟩ : BufTy).Contents (Elt F)) : (⟨S8x512x512, .i1⟩ : BufTy).Contents (Elt F) :=
  broadcastInDim S8x512x512 ![0, 1, 2] bcast_S8x1x512_S8x512x512_0_1_2 (val_main_v58 (F := F) x1)
abbrev idx_main_v60 (i : S8x512x512.Idx) : S8x1x512.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v60_apply (x1 : (⟨S8, .i32⟩ : BufTy).Contents (Elt F)) (i : S8x512x512.Idx) :
    val_main_v60 (F := F) x1 i = val_main_v58 (F := F) x1 (idx_main_v60 i) := by
  unfold val_main_v60
  generalize val_main_v58 (F := F) x1 = y
  exact broadcastInDim_apply _ bcast_S8x1x512_S8x512x512_0_1_2 y i (idx_main_v60 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)])

-- %61 = stablehlo.and %59, %60 : tensor<8x512x512xi1>
def val_main_v61 (x1 : (⟨S8, .i32⟩ : BufTy).Contents (Elt F)) : (⟨S8x512x512, .i1⟩ : BufTy).Contents (Elt F) :=
  andi (val_main_v59 (F := F) x1) (val_main_v60 (F := F) x1)
theorem val_main_v61_apply (x1 : (⟨S8, .i32⟩ : BufTy).Contents (Elt F)) (i : S8x512x512.Idx) :
    val_main_v61 (F := F) x1 i = IntOp.andi (val_main_v59 (F := F) x1 i) (val_main_v60 (F := F) x1 i) := rfl

-- %62 = stablehlo.broadcast_in_dim %51, dims = [1, 2] : (tensor<512x512xi1>) -> tensor<1x512x512xi1>
def val_main_v62 : (⟨S1x512x512, .i1⟩ : BufTy).Contents (Elt F) :=
  broadcastInDim S1x512x512 ![1, 2] bcast_S512x512_S1x512x512_1_2 (val_main_v51 (F := F))
abbrev idx_main_v62 (i : S1x512x512.Idx) : S512x512.Idx := fun a => match a with
  | ⟨0, _⟩ => ⟨(i 1).val, (i 1).isLt⟩
  | ⟨1, _⟩ => ⟨(i 2).val, (i 2).isLt⟩
theorem val_main_v62_apply (i : S1x512x512.Idx) :
    val_main_v62 (F := F) i = val_main_v51 (F := F) (idx_main_v62 i) := by
  unfold val_main_v62
  generalize val_main_v51 (F := F) = y
  exact broadcastInDim_apply _ bcast_S512x512_S1x512x512_1_2 y i (idx_main_v62 i) (fun a => match a with
    | ⟨0, _⟩ => by show (i 1).val = if (512 : Nat) = 1 then 0 else (i 1).val; rw [if_neg (by decide)]
    | ⟨1, _⟩ => by show (i 2).val = if (512 : Nat) = 1 then 0 else (i 2).val; rw [if_neg (by decide)])

-- %63 = stablehlo.broadcast_in_dim %62, dims = [0, 1, 2] : (tensor<1x512x512xi1>) -> tensor<8x512x512xi1>
def val_main_v63 : (⟨S8x512x512, .i1⟩ : BufTy).Contents (Elt F) :=
  broadcastInDim S8x512x512 ![0, 1, 2] bcast_S1x512x512_S8x512x512_0_1_2 (val_main_v62 (F := F))
abbrev idx_main_v63 (i : S8x512x512.Idx) : S1x512x512.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v63_apply (i : S8x512x512.Idx) :
    val_main_v63 (F := F) i = val_main_v62 (F := F) (idx_main_v63 i) := by
  unfold val_main_v63
  generalize val_main_v62 (F := F) = y
  exact broadcastInDim_apply _ bcast_S1x512x512_S8x512x512_0_1_2 y i (idx_main_v63 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

-- %64 = stablehlo.and %63, %61 : tensor<8x512x512xi1>
def val_main_v64 (x1 : (⟨S8, .i32⟩ : BufTy).Contents (Elt F)) : (⟨S8x512x512, .i1⟩ : BufTy).Contents (Elt F) :=
  andi (val_main_v63 (F := F)) (val_main_v61 (F := F) x1)
theorem val_main_v64_apply (x1 : (⟨S8, .i32⟩ : BufTy).Contents (Elt F)) (i : S8x512x512.Idx) :
    val_main_v64 (F := F) x1 i = IntOp.andi (val_main_v63 (F := F) i) (val_main_v61 (F := F) x1 i) := rfl

/-- The positions the arg-max runs over. -/
def val_main_call2_v0 : (⟨S512x8x9, .i32⟩ : BufTy).Contents (Elt F) :=
  iotaInDim S512x8x9 32 2

/-- The arg-max of the speaker mask along its last axis. -/
def val_main_v65 (x2 : (⟨S512x8x9, .f32⟩ : BufTy).Contents (Elt F)) : (⟨S512x8, .i32⟩ : BufTy).Contents (Elt F) :=
  fun j => (Host.argReduce reducer_argmax_f32_i32 x2 (val_main_call2_v0 (F := F)) (constant S_ .f32 0xFF800000#32) (constantI S_ 32 0#32) reducesTo_S512x8x9_S512x8_d2 h_S_ j).2

-- %66 = stablehlo.transpose %65, dims = [1, 0] : (tensor<512x8xi32>) -> tensor<8x512xi32>
def val_main_v66 (x2 : (⟨S512x8x9, .f32⟩ : BufTy).Contents (Elt F)) : (⟨S8x512, .i32⟩ : BufTy).Contents (Elt F) :=
  transpose S8x512 [1, 0] (val_main_v65 (F := F) x2) transposes_S512x8_S8x512_1_0
abbrev idx_main_v66 (i : S8x512.Idx) : S512x8.Idx := fun a => match a with
  | ⟨0, _⟩ => ⟨(i 1).val, (i 1).isLt⟩
  | ⟨1, _⟩ => ⟨(i 0).val, (i 0).isLt⟩
theorem val_main_v66_apply (x2 : (⟨S512x8x9, .f32⟩ : BufTy).Contents (Elt F)) (i : S8x512.Idx) :
    val_main_v66 (F := F) x2 i = val_main_v65 (F := F) x2 (idx_main_v66 i) := by
  unfold val_main_v66
  generalize val_main_v65 (F := F) x2 = y
  exact transpose_apply [1, 0] y transposes_S512x8_S8x512_1_0 i (idx_main_v66 i) (fun b => match b with
    | ⟨0, _⟩ => rfl
    | ⟨1, _⟩ => rfl)

-- %67 = stablehlo.broadcast_in_dim %66, dims = [0, 1] : (tensor<8x512xi32>) -> tensor<8x512x1xi32>
def val_main_v67 (x2 : (⟨S512x8x9, .f32⟩ : BufTy).Contents (Elt F)) : (⟨S8x512x1, .i32⟩ : BufTy).Contents (Elt F) :=
  broadcastInDim S8x512x1 ![0, 1] bcast_S8x512_S8x512x1_0_1 (val_main_v66 (F := F) x2)
abbrev idx_main_v67 (i : S8x512x1.Idx) : S8x512.Idx := fun a => match a with
  | ⟨0, _⟩ => ⟨(i 0).val, (i 0).isLt⟩
  | ⟨1, _⟩ => ⟨(i 1).val, (i 1).isLt⟩
theorem val_main_v67_apply (x2 : (⟨S512x8x9, .f32⟩ : BufTy).Contents (Elt F)) (i : S8x512x1.Idx) :
    val_main_v67 (F := F) x2 i = val_main_v66 (F := F) x2 (idx_main_v67 i) := by
  unfold val_main_v67
  generalize val_main_v66 (F := F) x2 = y
  exact broadcastInDim_apply _ bcast_S8x512_S8x512x1_0_1 y i (idx_main_v67 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)])

-- %68 = stablehlo.broadcast_in_dim %66, dims = [0, 2] : (tensor<8x512xi32>) -> tensor<8x1x512xi32>
def val_main_v68 (x2 : (⟨S512x8x9, .f32⟩ : BufTy).Contents (Elt F)) : (⟨S8x1x512, .i32⟩ : BufTy).Contents (Elt F) :=
  broadcastInDim S8x1x512 ![0, 2] bcast_S8x512_S8x1x512_0_2 (val_main_v66 (F := F) x2)
abbrev idx_main_v68 (i : S8x1x512.Idx) : S8x512.Idx := fun a => match a with
  | ⟨0, _⟩ => ⟨(i 0).val, (i 0).isLt⟩
  | ⟨1, _⟩ => ⟨(i 2).val, (i 2).isLt⟩
theorem val_main_v68_apply (x2 : (⟨S512x8x9, .f32⟩ : BufTy).Contents (Elt F)) (i : S8x1x512.Idx) :
    val_main_v68 (F := F) x2 i = val_main_v66 (F := F) x2 (idx_main_v68 i) := by
  unfold val_main_v68
  generalize val_main_v66 (F := F) x2 = y
  exact broadcastInDim_apply _ bcast_S8x512_S8x1x512_0_2 y i (idx_main_v68 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)])

-- %69 = stablehlo.broadcast_in_dim %67, dims = [0, 1, 2] : (tensor<8x512x1xi32>) -> tensor<8x512x512xi32>
def val_main_v69 (x2 : (⟨S512x8x9, .f32⟩ : BufTy).Contents (Elt F)) : (⟨S8x512x512, .i32⟩ : BufTy).Contents (Elt F) :=
  broadcastInDim S8x512x512 ![0, 1, 2] bcast_S8x512x1_S8x512x512_0_1_2 (val_main_v67 (F := F) x2)
abbrev idx_main_v69 (i : S8x512x512.Idx) : S8x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v69_apply (x2 : (⟨S512x8x9, .f32⟩ : BufTy).Contents (Elt F)) (i : S8x512x512.Idx) :
    val_main_v69 (F := F) x2 i = val_main_v67 (F := F) x2 (idx_main_v69 i) := by
  unfold val_main_v69
  generalize val_main_v67 (F := F) x2 = y
  exact broadcastInDim_apply _ bcast_S8x512x1_S8x512x512_0_1_2 y i (idx_main_v69 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

-- %70 = stablehlo.broadcast_in_dim %68, dims = [0, 1, 2] : (tensor<8x1x512xi32>) -> tensor<8x512x512xi32>
def val_main_v70 (x2 : (⟨S512x8x9, .f32⟩ : BufTy).Contents (Elt F)) : (⟨S8x512x512, .i32⟩ : BufTy).Contents (Elt F) :=
  broadcastInDim S8x512x512 ![0, 1, 2] bcast_S8x1x512_S8x512x512_0_1_2 (val_main_v68 (F := F) x2)
abbrev idx_main_v70 (i : S8x512x512.Idx) : S8x1x512.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v70_apply (x2 : (⟨S512x8x9, .f32⟩ : BufTy).Contents (Elt F)) (i : S8x512x512.Idx) :
    val_main_v70 (F := F) x2 i = val_main_v68 (F := F) x2 (idx_main_v70 i) := by
  unfold val_main_v70
  generalize val_main_v68 (F := F) x2 = y
  exact broadcastInDim_apply _ bcast_S8x1x512_S8x512x512_0_1_2 y i (idx_main_v70 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)])

-- %71 = stablehlo.compare EQ, %69, %70, SIGNED : (tensor<8x512x512xi32>, tensor<8x512x512xi32>) -> tensor<8x512x512xi1>
def val_main_v71 (x2 : (⟨S512x8x9, .f32⟩ : BufTy).Contents (Elt F)) : (⟨S8x512x512, .i1⟩ : BufTy).Contents (Elt F) :=
  cmpi .eq (val_main_v69 (F := F) x2) (val_main_v70 (F := F) x2)
theorem val_main_v71_apply (x2 : (⟨S512x8x9, .f32⟩ : BufTy).Contents (Elt F)) (i : S8x512x512.Idx) :
    val_main_v71 (F := F) x2 i = IntOp.cmpi .eq (val_main_v69 (F := F) x2 i) (val_main_v70 (F := F) x2 i) := rfl

-- %72 = stablehlo.and %64, %71 : tensor<8x512x512xi1>
def val_main_v72 (x1 : (⟨S8, .i32⟩ : BufTy).Contents (Elt F)) (x2 : (⟨S512x8x9, .f32⟩ : BufTy).Contents (Elt F)) : (⟨S8x512x512, .i1⟩ : BufTy).Contents (Elt F) :=
  andi (val_main_v64 (F := F) x1) (val_main_v71 (F := F) x2)
theorem val_main_v72_apply (x1 : (⟨S8, .i32⟩ : BufTy).Contents (Elt F)) (x2 : (⟨S512x8x9, .f32⟩ : BufTy).Contents (Elt F)) (i : S8x512x512.Idx) :
    val_main_v72 (F := F) x1 x2 i = IntOp.andi (val_main_v64 (F := F) x1 i) (val_main_v71 (F := F) x2 i) := rfl

-- %73 = stablehlo.convert %72 : (tensor<8x512x512xi1>) -> tensor<8x512x512xi32>
def val_main_v73 (x1 : (⟨S8, .i32⟩ : BufTy).Contents (Elt F)) (x2 : (⟨S512x8x9, .f32⟩ : BufTy).Contents (Elt F)) : (⟨S8x512x512, .i32⟩ : BufTy).Contents (Elt F) :=
  extui 32 (val_main_v72 (F := F) x1 x2) natLt_1_32
theorem val_main_v73_apply (x1 : (⟨S8, .i32⟩ : BufTy).Contents (Elt F)) (x2 : (⟨S512x8x9, .f32⟩ : BufTy).Contents (Elt F)) (i : S8x512x512.Idx) :
    val_main_v73 (F := F) x1 x2 i = (val_main_v72 (F := F) x1 x2 i).setWidth 32 := rfl

-- %c_13 = stablehlo.constant dense<0> : tensor<i32>
def val_main_c_13 : (⟨S_, .i32⟩ : BufTy).Contents (Elt F) :=
  constantI S_ 32 0#32
theorem val_main_c_13_apply (i : S_.Idx) :
    val_main_c_13 (F := F) i = 0#32 := rfl

-- %74 = stablehlo.reduce(%73 init: %c_13) applies stablehlo.add across dimensions = [2] : (tensor<8x512x512xi32>, tensor<i32>) -> tensor<8x512xi32> {
def val_main_v74 (x1 : (⟨S8, .i32⟩ : BufTy).Contents (Elt F)) (x2 : (⟨S512x8x9, .f32⟩ : BufTy).Contents (Elt F)) : (⟨S8x512, .i32⟩ : BufTy).Contents (Elt F) :=
  Host.reduce IntOp.addi (val_main_v73 (F := F) x1 x2) (val_main_c_13 (F := F)) reducesTo_S8x512x512_S8x512_d2 h_S_

-- %75 = stablehlo.convert %64 : (tensor<8x512x512xi1>) -> tensor<8x512x512xf32>
def val_main_v75 (x1 : (⟨S8, .i32⟩ : BufTy).Contents (Elt F)) : (⟨S8x512x512, .f32⟩ : BufTy).Contents (Elt F) :=
  uitofp .f32 (val_main_v64 (F := F) x1)
theorem val_main_v75_apply (x1 : (⟨S8, .i32⟩ : BufTy).Contents (Elt F)) (i : S8x512x512.Idx) :
    val_main_v75 (F := F) x1 i = FloatOps.uitofp .f32 (val_main_v64 (F := F) x1 i) := rfl

-- %76 = stablehlo.multiply %42, %75 : tensor<8x512x512xf32>
def val_main_v76 (x0 : (⟨S8x512x256, .f32⟩ : BufTy).Contents (Elt F)) (x1 : (⟨S8, .i32⟩ : BufTy).Contents (Elt F)) : (⟨S8x512x512, .f32⟩ : BufTy).Contents (Elt F) :=
  mulf (val_main_v42 (F := F) x0) (val_main_v75 (F := F) x1)
theorem val_main_v76_apply (x0 : (⟨S8x512x256, .f32⟩ : BufTy).Contents (Elt F)) (x1 : (⟨S8, .i32⟩ : BufTy).Contents (Elt F)) (i : S8x512x512.Idx) :
    val_main_v76 (F := F) x0 x1 i = FloatOps.mulf (val_main_v42 (F := F) x0 i) (val_main_v75 (F := F) x1 i) := rfl

-- %77 = stablehlo.convert %72 : (tensor<8x512x512xi1>) -> tensor<8x512x512xf32>
def val_main_v77 (x1 : (⟨S8, .i32⟩ : BufTy).Contents (Elt F)) (x2 : (⟨S512x8x9, .f32⟩ : BufTy).Contents (Elt F)) : (⟨S8x512x512, .f32⟩ : BufTy).Contents (Elt F) :=
  uitofp .f32 (val_main_v72 (F := F) x1 x2)
theorem val_main_v77_apply (x1 : (⟨S8, .i32⟩ : BufTy).Contents (Elt F)) (x2 : (⟨S512x8x9, .f32⟩ : BufTy).Contents (Elt F)) (i : S8x512x512.Idx) :
    val_main_v77 (F := F) x1 x2 i = FloatOps.uitofp .f32 (val_main_v72 (F := F) x1 x2 i) := rfl

-- %78 = stablehlo.multiply %42, %77 : tensor<8x512x512xf32>
def val_main_v78 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  mulf (val_main_v42 (F := F) x0) (val_main_v77 (F := F) x1 x2)
theorem val_main_v78_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v78 (F := F) x0 x1 x2 i = FloatOps.mulf (val_main_v42 (F := F) x0 i) (val_main_v77 (F := F) x1 x2 i) := rfl

-- %c_14 = stablehlo.constant dense<1> : tensor<i32>
def val_main_c_14 : (⟨S_, .i32⟩ : BufTy).Contents (Elt F) :=
  constantI S_ 32 1#32
theorem val_main_c_14_apply (i : S_.Idx) :
    val_main_c_14 (F := F) i = 1#32 := rfl

-- %79 = stablehlo.broadcast_in_dim %c_14, dims = [] : (tensor<i32>) -> tensor<8x512xi32>
def val_main_v79 : (⟨S8x512, .i32⟩ : BufTy).Contents (Elt F) :=
  broadcastInDim S8x512 ![] bcast_S_S8x512 (val_main_c_14 (F := F))
abbrev idx_main_v79 (i : S8x512.Idx) : S_.Idx := fun a => a.elim0
theorem val_main_v79_apply (i : S8x512.Idx) :
    val_main_v79 (F := F) i = val_main_c_14 (F := F) (idx_main_v79 i) := by
  unfold val_main_v79
  generalize val_main_c_14 (F := F) = y
  exact broadcastInDim_apply _ bcast_S_S8x512 y i (idx_main_v79 i) (fun a => a.elim0)

-- %80 = stablehlo.compare GT, %74, %79, SIGNED : (tensor<8x512xi32>, tensor<8x512xi32>) -> tensor<8x512xi1>
def val_main_v80 (x1 : (⟨S8, .i32⟩ : BufTy).Contents (Elt F)) (x2 : (⟨S512x8x9, .f32⟩ : BufTy).Contents (Elt F)) : (⟨S8x512, .i1⟩ : BufTy).Contents (Elt F) :=
  cmpi .sgt (val_main_v74 (F := F) x1 x2) (val_main_v79 (F := F))
theorem val_main_v80_apply (x1 : (⟨S8, .i32⟩ : BufTy).Contents (Elt F)) (x2 : (⟨S512x8x9, .f32⟩ : BufTy).Contents (Elt F)) (i : S8x512.Idx) :
    val_main_v80 (F := F) x1 x2 i = IntOp.cmpi .sgt (val_main_v74 (F := F) x1 x2 i) (val_main_v79 (F := F) i) := rfl

-- %81 = stablehlo.convert %80 : (tensor<8x512xi1>) -> tensor<8x512xf32>
def val_main_v81 (x1 : (⟨S8, .i32⟩ : BufTy).Contents (Elt F)) (x2 : (⟨S512x8x9, .f32⟩ : BufTy).Contents (Elt F)) : (⟨S8x512, .f32⟩ : BufTy).Contents (Elt F) :=
  uitofp .f32 (val_main_v80 (F := F) x1 x2)
theorem val_main_v81_apply (x1 : (⟨S8, .i32⟩ : BufTy).Contents (Elt F)) (x2 : (⟨S512x8x9, .f32⟩ : BufTy).Contents (Elt F)) (i : S8x512.Idx) :
    val_main_v81 (F := F) x1 x2 i = FloatOps.uitofp .f32 (val_main_v80 (F := F) x1 x2 i) := rfl

-- %82 = stablehlo.broadcast_in_dim %81, dims = [0, 1] : (tensor<8x512xf32>) -> tensor<8x512x1xf32>
def val_main_v82 (x1 : (⟨S8, .i32⟩ : BufTy).Contents (Elt F)) (x2 : (⟨S512x8x9, .f32⟩ : BufTy).Contents (Elt F)) : (⟨S8x512x1, .f32⟩ : BufTy).Contents (Elt F) :=
  broadcastInDim S8x512x1 ![0, 1] bcast_S8x512_S8x512x1_0_1 (val_main_v81 (F := F) x1 x2)
abbrev idx_main_v82 (i : S8x512x1.Idx) : S8x512.Idx := fun a => match a with
  | ⟨0, _⟩ => ⟨(i 0).val, (i 0).isLt⟩
  | ⟨1, _⟩ => ⟨(i 1).val, (i 1).isLt⟩
theorem val_main_v82_apply (x1 : (⟨S8, .i32⟩ : BufTy).Contents (Elt F)) (x2 : (⟨S512x8x9, .f32⟩ : BufTy).Contents (Elt F)) (i : S8x512x1.Idx) :
    val_main_v82 (F := F) x1 x2 i = val_main_v81 (F := F) x1 x2 (idx_main_v82 i) := by
  unfold val_main_v82
  generalize val_main_v81 (F := F) x1 x2 = y
  exact broadcastInDim_apply _ bcast_S8x512_S8x512x1_0_1 y i (idx_main_v82 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)])

-- %83 = stablehlo.broadcast_in_dim %82, dims = [0, 1, 2] : (tensor<8x512x1xf32>) -> tensor<8x512x512xf32>
def val_main_v83 (x1 : (⟨S8, .i32⟩ : BufTy).Contents (Elt F)) (x2 : (⟨S512x8x9, .f32⟩ : BufTy).Contents (Elt F)) : (⟨S8x512x512, .f32⟩ : BufTy).Contents (Elt F) :=
  broadcastInDim S8x512x512 ![0, 1, 2] bcast_S8x512x1_S8x512x512_0_1_2 (val_main_v82 (F := F) x1 x2)
abbrev idx_main_v83 (i : S8x512x512.Idx) : S8x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v83_apply (x1 : (⟨S8, .i32⟩ : BufTy).Contents (Elt F)) (x2 : (⟨S512x8x9, .f32⟩ : BufTy).Contents (Elt F)) (i : S8x512x512.Idx) :
    val_main_v83 (F := F) x1 x2 i = val_main_v82 (F := F) x1 x2 (idx_main_v83 i) := by
  unfold val_main_v83
  generalize val_main_v82 (F := F) x1 x2 = y
  exact broadcastInDim_apply _ bcast_S8x512x1_S8x512x512_0_1_2 y i (idx_main_v83 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

-- %84 = stablehlo.multiply %78, %83 : tensor<8x512x512xf32>
def val_main_v84 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  mulf (val_main_v78 (F := F) x0 x1 x2) (val_main_v83 (F := F) x1 x2)
theorem val_main_v84_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v84 (F := F) x0 x1 x2 i = FloatOps.mulf (val_main_v78 (F := F) x0 x1 x2 i) (val_main_v83 (F := F) x1 x2 i) := rfl

-- %85 = stablehlo.add %76, %84 : tensor<8x512x512xf32>
def val_main_v85 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  addf (val_main_v76 (F := F) x0 x1) (val_main_v84 (F := F) x0 x1 x2)
theorem val_main_v85_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v85 (F := F) x0 x1 x2 i = FloatOps.addf (val_main_v76 (F := F) x0 x1 i) (val_main_v84 (F := F) x0 x1 x2 i) := rfl

-- %cst_15 = stablehlo.constant dense<0.000000e+00> : tensor<f32>
def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

-- %86 = stablehlo.reduce(%85 init: %cst_15) applies stablehlo.add across dimensions = [2] : (tensor<8x512x512xf32>, tensor<f32>) -> tensor<8x512xf32> {
def val_main_v86 (x0 : (⟨S8x512x256, .f32⟩ : BufTy).Contents (Elt F)) (x1 : (⟨S8, .i32⟩ : BufTy).Contents (Elt F)) (x2 : (⟨S512x8x9, .f32⟩ : BufTy).Contents (Elt F)) : (⟨S8x512, .f32⟩ : BufTy).Contents (Elt F) :=
  Host.reduceAdd (val_main_v85 (F := F) x0 x1 x2) (val_main_cst_15 (F := F)) reducesTo_S8x512x512_S8x512_d2 h_S_
abbrev idx_main_v86 (i : S8x512.Idx) (k : Fin 512) : S8x512x512.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v86_apply (x0 : (⟨S8x512x256, .f32⟩ : BufTy).Contents (Elt Ideal)) (x1 : (⟨S8, .i32⟩ : BufTy).Contents (Elt Ideal)) (x2 : (⟨S512x8x9, .f32⟩ : BufTy).Contents (Elt Ideal)) (i : S8x512.Idx) :
    val_main_v86 (F := Ideal) x0 x1 x2 i = (val_main_cst_15 (F := Ideal)) (Shape.Idx.first h_S_) + ∑ k : Fin 512, (val_main_v85 (F := Ideal) x0 x1 x2) (idx_main_v86 i k) := by
  unfold val_main_v86
  generalize val_main_v85 (F := Ideal) x0 x1 x2 = y0
  simp only [Host.reduceAdd, Ideal.hostReduceAdd_def]
  rw [Ideal.hostReduceAdd_single reducesTo_S8x512x512_S8x512_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_16 = stablehlo.constant dense<0.000000e+00> : tensor<f32>
def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl

-- %87 = stablehlo.broadcast_in_dim %cst_16, dims = [] : (tensor<f32>) -> tensor<8x512xf32>
def val_main_v87 : (⟨S8x512, .f32⟩ : BufTy).Contents (Elt F) :=
  broadcastInDim S8x512 ![] bcast_S_S8x512 (val_main_cst_16 (F := F))
abbrev idx_main_v87 (i : S8x512.Idx) : S_.Idx := fun a => a.elim0
theorem val_main_v87_apply (i : S8x512.Idx) :
    val_main_v87 (F := F) i = val_main_cst_16 (F := F) (idx_main_v87 i) := by
  unfold val_main_v87
  generalize val_main_cst_16 (F := F) = y
  exact broadcastInDim_apply _ bcast_S_S8x512 y i (idx_main_v87 i) (fun a => a.elim0)

-- %88 = stablehlo.compare EQ, %86, %87, FLOAT : (tensor<8x512xf32>, tensor<8x512xf32>) -> tensor<8x512xi1>
def val_main_v88 (x0 : (⟨S8x512x256, .f32⟩ : BufTy).Contents (Elt F)) (x1 : (⟨S8, .i32⟩ : BufTy).Contents (Elt F)) (x2 : (⟨S512x8x9, .f32⟩ : BufTy).Contents (Elt F)) : (⟨S8x512, .i1⟩ : BufTy).Contents (Elt F) :=
  cmpf .oeq (val_main_v86 (F := F) x0 x1 x2) (val_main_v87 (F := F))
theorem val_main_v88_apply (x0 : (⟨S8x512x256, .f32⟩ : BufTy).Contents (Elt F)) (x1 : (⟨S8, .i32⟩ : BufTy).Contents (Elt F)) (x2 : (⟨S512x8x9, .f32⟩ : BufTy).Contents (Elt F)) (i : S8x512.Idx) :
    val_main_v88 (F := F) x0 x1 x2 i = FloatOps.cmpf .oeq (val_main_v86 (F := F) x0 x1 x2 i) (val_main_v87 (F := F) i) := rfl

-- %cst_17 = stablehlo.constant dense<1.000000e+00> : tensor<f32>
def val_main_cst_17 : (⟨S_, .f32⟩ : BufTy).Contents (Elt F) :=
  constant S_ .f32 0x3F800000#32
theorem val_main_cst_17_apply (i : S_.Idx) :
    val_main_cst_17 (F := F) i = FloatOps.ofBits .f32 0x3F800000#32 := rfl

-- @_where_0's %0 = stablehlo.convert %arg1 : tensor<f32>, in %89 = func.call @_where_0(…) (record main_call3)
def val_main_call3_v0 : (⟨S_, .f32⟩ : BufTy).Contents (Elt F) :=
  id (val_main_cst_17 (F := F))
theorem val_main_call3_v0_apply (i : S_.Idx) :
    val_main_call3_v0 (F := F) i = (val_main_cst_17 (F := F) i) := rfl

-- @_where_0's %1 = stablehlo.broadcast_in_dim %0, dims = [] : (tensor<f32>) -> tensor<8x512xf32>, in %89 = func.call @_where_0(…) (record main_call3)
def val_main_call3_v1 : (⟨S8x512, .f32⟩ : BufTy).Contents (Elt F) :=
  broadcastInDim S8x512 ![] bcast_S_S8x512 (val_main_call3_v0 (F := F))
abbrev idx_main_call3_v1 (i : S8x512.Idx) : S_.Idx := fun a => a.elim0
theorem val_main_call3_v1_apply (i : S8x512.Idx) :
    val_main_call3_v1 (F := F) i = val_main_call3_v0 (F := F) (idx_main_call3_v1 i) := by
  unfold val_main_call3_v1
  generalize val_main_call3_v0 (F := F) = y
  exact broadcastInDim_apply _ bcast_S_S8x512 y i (idx_main_call3_v1 i) (fun a => a.elim0)

-- %89 = func.call @_where_0(…) (record main_call3) result 0: @_where_0's %2 = stablehlo.select %arg0, %1, %arg2 : tensor<8x512xi1>, tensor<8x512xf32>
def val_main_v89 (x0 : (⟨S8x512x256, .f32⟩ : BufTy).Contents (Elt F)) (x1 : (⟨S8, .i32⟩ : BufTy).Contents (Elt F)) (x2 : (⟨S512x8x9, .f32⟩ : BufTy).Contents (Elt F)) : (⟨S8x512, .f32⟩ : BufTy).Contents (Elt F) :=
  select (val_main_v88 (F := F) x0 x1 x2) (val_main_call3_v1 (F := F)) (val_main_v86 (F := F) x0 x1 x2)
theorem val_main_v89_apply (x0 : (⟨S8x512x256, .f32⟩ : BufTy).Contents (Elt F)) (x1 : (⟨S8, .i32⟩ : BufTy).Contents (Elt F)) (x2 : (⟨S512x8x9, .f32⟩ : BufTy).Contents (Elt F)) (i : S8x512.Idx) :
    val_main_v89 (F := F) x0 x1 x2 i = Scalar.select (val_main_v88 (F := F) x0 x1 x2 i) (val_main_call3_v1 (F := F) i) (val_main_v86 (F := F) x0 x1 x2 i) := rfl

-- %cst_18 = stablehlo.constant dense<-5.000000e-01> : tensor<f32>
def val_main_cst_18 : (⟨S_, .f32⟩ : BufTy).Contents (Elt F) :=
  constant S_ .f32 0xBF000000#32
theorem val_main_cst_18_apply (i : S_.Idx) :
    val_main_cst_18 (F := F) i = FloatOps.ofBits .f32 0xBF000000#32 := rfl

-- %90 = stablehlo.broadcast_in_dim %cst_18, dims = [] : (tensor<f32>) -> tensor<8x512xf32>
def val_main_v90 : (⟨S8x512, .f32⟩ : BufTy).Contents (Elt F) :=
  broadcastInDim S8x512 ![] bcast_S_S8x512 (val_main_cst_18 (F := F))
abbrev idx_main_v90 (i : S8x512.Idx) : S_.Idx := fun a => a.elim0
theorem val_main_v90_apply (i : S8x512.Idx) :
    val_main_v90 (F := F) i = val_main_cst_18 (F := F) (idx_main_v90 i) := by
  unfold val_main_v90
  generalize val_main_cst_18 (F := F) = y
  exact broadcastInDim_apply _ bcast_S_S8x512 y i (idx_main_v90 i) (fun a => a.elim0)

-- %91 = stablehlo.power %89, %90 : tensor<8x512xf32>
def val_main_v91 (x0 : (⟨S8x512x256, .f32⟩ : BufTy).Contents (Elt F)) (x1 : (⟨S8, .i32⟩ : BufTy).Contents (Elt F)) (x2 : (⟨S512x8x9, .f32⟩ : BufTy).Contents (Elt F)) : (⟨S8x512, .f32⟩ : BufTy).Contents (Elt F) :=
  Host.powf (val_main_v89 (F := F) x0 x1 x2) (val_main_v90 (F := F))
theorem val_main_v91_apply (x0 : (⟨S8x512x256, .f32⟩ : BufTy).Contents (Elt F)) (x1 : (⟨S8, .i32⟩ : BufTy).Contents (Elt F)) (x2 : (⟨S512x8x9, .f32⟩ : BufTy).Contents (Elt F)) (i : S8x512.Idx) :
    val_main_v91 (F := F) x0 x1 x2 i = FloatOps.hostPowf (val_main_v89 (F := F) x0 x1 x2 i) (val_main_v90 (F := F) i) := rfl

-- %92 = stablehlo.broadcast_in_dim %91, dims = [0, 1] : (tensor<8x512xf32>) -> tensor<8x512x1xf32>
def val_main_v92 (x0 : (⟨S8x512x256, .f32⟩ : BufTy).Contents (Elt F)) (x1 : (⟨S8, .i32⟩ : BufTy).Contents (Elt F)) (x2 : (⟨S512x8x9, .f32⟩ : BufTy).Contents (Elt F)) : (⟨S8x512x1, .f32⟩ : BufTy).Contents (Elt F) :=
  broadcastInDim S8x512x1 ![0, 1] bcast_S8x512_S8x512x1_0_1 (val_main_v91 (F := F) x0 x1 x2)
abbrev idx_main_v92 (i : S8x512x1.Idx) : S8x512.Idx := fun a => match a with
  | ⟨0, _⟩ => ⟨(i 0).val, (i 0).isLt⟩
  | ⟨1, _⟩ => ⟨(i 1).val, (i 1).isLt⟩
theorem val_main_v92_apply (x0 : (⟨S8x512x256, .f32⟩ : BufTy).Contents (Elt F)) (x1 : (⟨S8, .i32⟩ : BufTy).Contents (Elt F)) (x2 : (⟨S512x8x9, .f32⟩ : BufTy).Contents (Elt F)) (i : S8x512x1.Idx) :
    val_main_v92 (F := F) x0 x1 x2 i = val_main_v91 (F := F) x0 x1 x2 (idx_main_v92 i) := by
  unfold val_main_v92
  generalize val_main_v91 (F := F) x0 x1 x2 = y
  exact broadcastInDim_apply _ bcast_S8x512_S8x512x1_0_1 y i (idx_main_v92 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)])

-- %93 = stablehlo.broadcast_in_dim %92, dims = [0, 1, 2] : (tensor<8x512x1xf32>) -> tensor<8x512x512xf32>
def val_main_v93 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  broadcastInDim S8x512x512 ![0, 1, 2] bcast_S8x512x1_S8x512x512_0_1_2 (val_main_v92 (F := F) x0 x1 x2)
abbrev idx_main_v93 (i : S8x512x512.Idx) : S8x512x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v93_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v93 (F := F) x0 x1 x2 i = val_main_v92 (F := F) x0 x1 x2 (idx_main_v93 i) := by
  unfold val_main_v93
  generalize val_main_v92 (F := F) x0 x1 x2 = y
  exact broadcastInDim_apply _ bcast_S8x512x1_S8x512x512_0_1_2 y i (idx_main_v93 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])

-- %94 = stablehlo.multiply %85, %93 : tensor<8x512x512xf32>
def val_main_v94 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  mulf (val_main_v85 (F := F) x0 x1 x2) (val_main_v93 (F := F) x0 x1 x2)
theorem val_main_v94_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v94 (F := F) x0 x1 x2 i = FloatOps.mulf (val_main_v85 (F := F) x0 x1 x2 i) (val_main_v93 (F := F) x0 x1 x2 i) := rfl

-- %95 = stablehlo.broadcast_in_dim %91, dims = [0, 2] : (tensor<8x512xf32>) -> tensor<8x1x512xf32>
def val_main_v95 (x0 : (⟨S8x512x256, .f32⟩ : BufTy).Contents (Elt F)) (x1 : (⟨S8, .i32⟩ : BufTy).Contents (Elt F)) (x2 : (⟨S512x8x9, .f32⟩ : BufTy).Contents (Elt F)) : (⟨S8x1x512, .f32⟩ : BufTy).Contents (Elt F) :=
  broadcastInDim S8x1x512 ![0, 2] bcast_S8x512_S8x1x512_0_2 (val_main_v91 (F := F) x0 x1 x2)
abbrev idx_main_v95 (i : S8x1x512.Idx) : S8x512.Idx := fun a => match a with
  | ⟨0, _⟩ => ⟨(i 0).val, (i 0).isLt⟩
  | ⟨1, _⟩ => ⟨(i 2).val, (i 2).isLt⟩
theorem val_main_v95_apply (x0 : (⟨S8x512x256, .f32⟩ : BufTy).Contents (Elt F)) (x1 : (⟨S8, .i32⟩ : BufTy).Contents (Elt F)) (x2 : (⟨S512x8x9, .f32⟩ : BufTy).Contents (Elt F)) (i : S8x1x512.Idx) :
    val_main_v95 (F := F) x0 x1 x2 i = val_main_v91 (F := F) x0 x1 x2 (idx_main_v95 i) := by
  unfold val_main_v95
  generalize val_main_v91 (F := F) x0 x1 x2 = y
  exact broadcastInDim_apply _ bcast_S8x512_S8x1x512_0_2 y i (idx_main_v95 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)])

-- %96 = stablehlo.broadcast_in_dim %95, dims = [0, 1, 2] : (tensor<8x1x512xf32>) -> tensor<8x512x512xf32>
def val_main_v96 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  broadcastInDim S8x512x512 ![0, 1, 2] bcast_S8x1x512_S8x512x512_0_1_2 (val_main_v95 (F := F) x0 x1 x2)
abbrev idx_main_v96 (i : S8x512x512.Idx) : S8x1x512.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v96_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v96 (F := F) x0 x1 x2 i = val_main_v95 (F := F) x0 x1 x2 (idx_main_v96 i) := by
  unfold val_main_v96
  generalize val_main_v95 (F := F) x0 x1 x2 = y
  exact broadcastInDim_apply _ bcast_S8x1x512_S8x512x512_0_1_2 y i (idx_main_v96 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)])

-- %97 = stablehlo.multiply %94, %96 : tensor<8x512x512xf32>
def val_main_v97 (x0 : (⟨S8x512x256, .f32⟩ : BufTy).Contents (Elt F)) (x1 : (⟨S8, .i32⟩ : BufTy).Contents (Elt F)) (x2 : (⟨S512x8x9, .f32⟩ : BufTy).Contents (Elt F)) : (⟨S8x512x512, .f32⟩ : BufTy).Contents (Elt F) :=
  mulf (val_main_v94 (F := F) x0 x1 x2) (val_main_v96 (F := F) x0 x1 x2)
theorem val_main_v97_apply (x0 : (⟨S8x512x256, .f32⟩ : BufTy).Contents (Elt F)) (x1 : (⟨S8, .i32⟩ : BufTy).Contents (Elt F)) (x2 : (⟨S512x8x9, .f32⟩ : BufTy).Contents (Elt F)) (i : S8x512x512.Idx) :
    val_main_v97 (F := F) x0 x1 x2 i = FloatOps.mulf (val_main_v94 (F := F) x0 x1 x2 i) (val_main_v96 (F := F) x0 x1 x2 i) := rfl

/-- The term the Run module states for `main_v97` over any contents `V0` is the stage. -/
theorem val_main_v97_eq (V0 : Valuation τ sig (Elt F)) :
    mulf (mulf (Cert.ReferenceIdeal.Value.res_main_v85 V0) (broadcastInDim S8x512x512 ![0, 1, 2] bcast_S8x512x1_S8x512x512_0_1_2 (broadcastInDim S8x512x1 ![0, 1] bcast_S8x512_S8x512x1_0_1 (Cert.ReferenceIdeal.Value.res_main_v91 V0)))) (broadcastInDim S8x512x512 ![0, 1, 2] bcast_S8x1x512_S8x512x512_0_1_2 (broadcastInDim S8x1x512 ![0, 2] bcast_S8x512_S8x1x512_0_2 (Cert.ReferenceIdeal.Value.res_main_v91 V0)))
      = val_main_v97 (F := F) (V0 (Proc.devRef .tc main_arg0)) (V0 (Proc.devRef .tc main_arg1)) (V0 (Proc.devRef .tc main_arg2)) := rfl

end Cert.ReferenceIdeal.Read

end
-- ==== Proof.RefValue.lean ====
/-
  The reference's value: each of its operations, read at an index, is the quantity of the statement it computes.
-/
module

public import proofs.«01_k».proof.Proof.RefRead
public import proofs.«01_k».proof.Proof.Spec
public import proofs.«01_k».proof.Proof.Words
public import Idealize.ShloMosaic.Lib.WordSum

@[expose] public section

noncomputable section

namespace Cert.ReferenceIdeal.Worth

open Cert.ReferenceIdeal Cert.ReferenceIdeal.Gen Cert.ReferenceIdeal.Read Cert.Spec Cert.Words Idealize.ShloMosaic Idealize.ShloMosaic.ValueIdx

variable (x : Feat) (n : Len) (q : Mask) (b : Fin 8) (i j : Fin 512)

/-! ## Weights -/

/-- A normalised feature. -/
theorem v7_at (k : Fin 256) : val_main_v7 (F := Ideal) x (ix3 b i k) = xn x b i k := by
  rw [val_main_v7_apply, val_main_v6_apply, val_main_v5_apply, val_main_v3_apply, val_main_v2_apply, val_main_v1_apply,
    val_main_v4_apply, val_main_cst_0_apply, val_main_cst_apply]
  refine Eq.trans ?_ (div_norm x b i k)
  show Ideal.div _ (max (Ideal.sqrt (Ideal.ofBits .f32 0x00000000#32 + _)) (Ideal.ofBits .f32 0x322BCC77#32)) = _
  rw [Ideal.ofBits_zero_f32, zero_add, lit_eps]
  refine congrArg (fun s => Ideal.div _ (max (Ideal.sqrt s) _)) (Finset.sum_congr rfl fun l _ => ?_)
  rw [val_main_v0_apply]
  have e : idx_main_v1 (idx_main_v2 (idx_main_v6 (ix3 b i k))) l = ix3 b i l := by ext a; fin_cases a <;> rfl
  rw [e]
  rfl

/-- An inner product of two normalised rows. -/
theorem v8_at : val_main_v8 (F := Ideal) x (ix3 b i j) = dot x b i j := by
  rw [val_main_v8_apply]
  refine Finset.sum_congr rfl fun k _ => ?_
  have el : lidx_main_v8 (ix3 b i j) k = ix3 b i k := by ext a; fin_cases a <;> rfl
  have er : ridx_main_v8 (ix3 b i j) k = ix3 b j k := by ext a; fin_cases a <;> rfl
  rw [el, er, v7_at, v7_at]

/-- The arccosine of −1, which the reference uses for π. -/
theorem acos_neg_one : FloatOps.hostUnary (F := Ideal) (φ := .f32) .acos (FloatOps.ofBits .f32 0xBF800000#32) = ((Real.pi : ℝ) : EReal) := by
  show Ideal.acos (Ideal.ofBits .f32 0xBF800000#32) = _
  rw [lit_neg_one, Ideal.acos_coe, if_pos (by norm_num), Real.arccos_neg_one]

/-- The clipped inner product. -/
theorem v9_at {c : ℝ} (hc : dot x b i j = c) : val_main_v9 (F := Ideal) x (ix3 b i j) = ((min (max c (-1)) 1 : ℝ) : EReal) := by
  rw [val_main_v9_apply, val_main_call0_v2_apply, val_main_call0_v1_apply, val_main_call0_v0_apply, val_main_cst_1_apply,
    val_main_call0_v4_apply, val_main_call0_v3_apply, val_main_cst_2_apply, v8_at, hc]
  show min (Ideal.ofBits .f32 0x3F800000#32) (max (Ideal.ofBits .f32 0xBF800000#32) (c : EReal)) = _
  rw [lit_one, lit_neg_one, min_comm, max_comm, EReal.coe_strictMono.monotone.map_min, EReal.coe_strictMono.monotone.map_max, EReal.coe_one]

/-- Its magnitude. -/
theorem v10_at {d : ℝ} (hd : val_main_v9 (F := Ideal) x (ix3 b i j) = d) : val_main_v10 (F := Ideal) x (ix3 b i j) = ((|d| : ℝ) : EReal) := by
  rw [val_main_v10_apply, hd]
  show max (d : EReal) (-d) = _
  rw [← EReal.coe_neg, ← EReal.coe_strictMono.monotone.map_max]
  rfl

/-- The polynomial, computed over a common denominator. -/
theorem v25_at {a : ℝ} (ha : val_main_v10 (F := Ideal) x (ix3 b i j) = a) : val_main_v25 (F := Ideal) x (ix3 b i j) = ((poly a : ℝ) : EReal) := by
  rw [val_main_v25_apply, val_main_v23_apply, val_main_v18_apply, val_main_v14_apply, val_main_v12_apply, val_main_v17_apply,
    val_main_v22_apply, val_main_v20_apply, val_main_v19_apply, val_main_v15_apply, ha,
    val_main_v24_apply, val_main_cst_7_apply, val_main_v21_apply, val_main_cst_6_apply, val_main_v16_apply, val_main_cst_5_apply,
    val_main_v13_apply, val_main_cst_4_apply, val_main_v11_apply, val_main_cst_3_apply]
  show Ideal.div (Ideal.ofBits .f32 0x4B6FAC98#32 - Ideal.ofBits .f32 0x4A0176E0#32 * (a : EReal)
    + Ideal.ofBits .f32 0x49354D20#32 * ((a : EReal) * a) - Ideal.ofBits .f32 0x4836E740#32 * ((a : EReal) * a * a)) (Ideal.ofBits .f32 0x4B189680#32) = _
  rw [lit_c0, lit_c1, lit_c2, lit_c3, lit_e7, Ideal.div_coe (by norm_num)]
  simp only [← EReal.coe_mul, ← EReal.coe_sub, ← EReal.coe_add]
  congr 1
  unfold poly
  ring

/-- The weight of two positions. -/
theorem v42_at : val_main_v42 (F := Ideal) x (ix3 b i j) = wgt (dot x b i j) := by
  obtain ⟨c, hc⟩ := dot_isR x b i j
  have h9 := v9_at x b i j hc
  have h10 := v10_at x b i j h9
  have h25 := v25_at x b i j h10
  have hb : |min (max c (-1)) 1| ≤ 1 := abs_le.2 ⟨le_min (le_max_right _ _) (by norm_num), min_le_right _ _⟩
  rw [hc, ← wgt_clip c]
  generalize min (max c (-1)) 1 = d at h9 h10 h25 hb ⊢
  have h29 : val_main_v29 (F := Ideal) x (ix3 b i j) = ((Real.sqrt (1 - |d|) * poly |d| : ℝ) : EReal) := by
    rw [val_main_v29_apply, val_main_v28_apply, val_main_v27_apply, val_main_v26_apply, val_main_cst_8_apply, h10, h25]
    show Ideal.sqrt (Ideal.ofBits .f32 0x3F800000#32 - ((|d| : ℝ) : EReal)) * ((poly |d| : ℝ) : EReal) = _
    rw [lit_one, ← EReal.coe_one, ← EReal.coe_sub, Ideal.sqrt_coe, if_neg (by linarith), ← EReal.coe_mul]
  have h36 : val_main_v36 (F := Ideal) x (ix3 b i j) = ((acosR d : ℝ) : EReal) := by
    rw [val_main_v36_apply, val_main_v31_apply, val_main_v35_apply, val_main_v34_apply, val_main_v33_apply, val_main_v32_apply,
      val_main_cst_10_apply, acos_neg_one, val_main_v30_apply, val_main_cst_9_apply, h9, h29]
    show Scalar.select (BitVec.ofBool (decide (Ideal.ofBits .f32 0x00000000#32 ≤ (d : EReal)))) _ (((Real.pi : ℝ) : EReal) - _) = _
    rw [Ideal.ofBits_zero_f32, WordCmp.select_decide, ← EReal.coe_sub, acosR]
    simp only [EReal.coe_nonneg]
    split <;> rfl
  rw [val_main_v42_apply, val_main_v41_apply, val_main_cst_12_apply, val_main_v40_apply, val_main_v39_apply, val_main_v38_apply,
    val_main_v37_apply, val_main_cst_11_apply, acos_neg_one, h36]
  show Ideal.ofBits .f32 0x3F800000#32 - Ideal.div (acosR d : EReal) ((Real.pi : ℝ) : EReal) = _
  rw [lit_one, Ideal.div_coe Real.pi_ne_zero, ← EReal.coe_mul, ← EReal.coe_one, ← EReal.coe_sub]

/-! ## Masks -/

/-- A position within a dialogue. -/
theorem v56_at : val_main_v56 (F := Ideal) n (ix2 b i) = BitVec.ofBool (decide ((i : ℤ) < (n (ix1 b)).toInt)) := by
  rw [val_main_v56_apply, val_main_v54_apply, val_main_v52_apply, val_main_v43_apply, val_main_v55_apply, val_main_v53_apply]
  have e : idx_main_v53 (idx_main_v55 (ix2 b i)) = ix1 b := by ext a; fin_cases a; rfl
  rw [e]
  exact before_word i.isLt _

/-- The window mask. -/
theorem v64_at : val_main_v64 (F := Ideal) n (ix3 b i j) = BitVec.ofBool (decide (InWin n b i j)) := by
  rw [val_main_v64_apply, val_main_v63_apply, val_main_v62_apply, val_main_v61_apply, val_main_v59_apply, val_main_v57_apply,
    val_main_v60_apply, val_main_v58_apply]
  have e1 : idx_main_v57 (idx_main_v59 (ix3 b i j)) = ix2 b i := by ext a; fin_cases a <;> rfl
  have e2 : idx_main_v58 (idx_main_v60 (ix3 b i j)) = ix2 b j := by ext a; fin_cases a <;> rfl
  rw [e1, e2, v56_at, v56_at, andi_decide, val_main_v51_apply, val_main_v50_apply, val_main_c_apply, val_main_v49_apply,
    val_main_v48_apply, val_main_v46_apply, val_main_v44_apply, val_main_v43_apply, val_main_v47_apply, val_main_v45_apply, val_main_v43_apply]
  refine (congrArg (IntOp.andi · _) (near_word i.isLt j.isLt)).trans ?_
  rw [andi_decide]
  rfl

/-- The arg-max's body keeps the greater value and, of equal values, the one met at the smaller position. -/
theorem reducer_eq (u v : EReal × BitVec 32) : reducer_argmax_f32_i32 (F := Ideal) u v
    = if v.1 < u.1 ∨ (u.1 = v.1 ∧ u.2.toInt < v.2.toInt) then u else v := by
  obtain ⟨a, s⟩ := u
  obtain ⟨c, t⟩ := v
  show (Scalar.select (IntOp.ori (BitVec.ofBool (decide (c < a))) (BitVec.ofBool (decide (a ≠ a)))) a c,
    Scalar.select (IntOp.ori (IntOp.ori (BitVec.ofBool (decide (c < a))) (BitVec.ofBool (decide (a ≠ a))))
      (IntOp.andi (BitVec.ofBool (decide (a = c))) (IntOp.cmpi .slt s t))) s t) = _
  rw [WordCmp.cmpi_slt_eq, andi_decide]
  rcases lt_trichotomy c a with h | rfl | h
  · simp [h, h.ne', IntOp.ori, Scalar.select]
  · by_cases ht : s.toInt < t.toInt <;> simp [ht, IntOp.ori, Scalar.select]
  · simp [h.not_gt, h.ne, IntOp.ori, Scalar.select]

/-- A pair beats another: a greater value or, of equal values, the smaller position. -/
def Beats (r p : EReal × BitVec 32) : Prop := p.1 ≤ r.1 ∧ (p.1 = r.1 → r.2.toInt ≤ p.2.toInt)

theorem Beats.trans {r p t : EReal × BitVec 32} (h : Beats r p) (h' : Beats p t) : Beats r t :=
  ⟨h'.1.trans h.1, fun e => (h.2 (le_antisymm h.1 (e ▸ h'.1))).trans (h'.2 (le_antisymm h'.1 (e ▸ h.1)))⟩

/-- The arg-max of a list is its start or a member, and beats the start and every member. -/
theorem foldl_reducer (l : List (EReal × BitVec 32)) (p : EReal × BitVec 32) :
    (l.foldl (reducer_argmax_f32_i32 (F := Ideal)) p = p ∨ l.foldl (reducer_argmax_f32_i32 (F := Ideal)) p ∈ l)
      ∧ Beats (l.foldl (reducer_argmax_f32_i32 (F := Ideal)) p) p ∧ ∀ t ∈ l, Beats (l.foldl (reducer_argmax_f32_i32 (F := Ideal)) p) t := by
  induction l generalizing p with
  | nil => exact ⟨.inl rfl, ⟨le_rfl, fun _ => le_rfl⟩, by simp⟩
  | cons t l ih =>
    rw [List.foldl_cons, reducer_eq]
    obtain ⟨h1, h2, h3⟩ := ih (if t.1 < p.1 ∨ (p.1 = t.1 ∧ p.2.toInt < t.2.toInt) then p else t)
    have hb : Beats (if t.1 < p.1 ∨ (p.1 = t.1 ∧ p.2.toInt < t.2.toInt) then p else t) p
        ∧ Beats (if t.1 < p.1 ∨ (p.1 = t.1 ∧ p.2.toInt < t.2.toInt) then p else t) t
        ∧ ((if t.1 < p.1 ∨ (p.1 = t.1 ∧ p.2.toInt < t.2.toInt) then p else t) = p
          ∨ (if t.1 < p.1 ∨ (p.1 = t.1 ∧ p.2.toInt < t.2.toInt) then p else t) = t) := by
      split
      · rename_i h
        refine ⟨⟨le_rfl, fun _ => le_rfl⟩, ?_, .inl rfl⟩
        rcases h with h | h
        · exact ⟨h.le, fun e => absurd e h.ne⟩
        · exact ⟨h.1.ge, fun _ => h.2.le⟩
      · rename_i h
        rw [not_or, not_and] at h
        exact ⟨⟨not_lt.1 h.1, fun e => not_lt.1 (h.2 e)⟩, ⟨le_rfl, fun _ => le_rfl⟩, .inr rfl⟩
    refine ⟨?_, h2.trans hb.1, fun u hu => ?_⟩
    · rcases h1 with h1 | h1
      · rw [h1]
        rcases hb.2.2 with h | h <;> rw [h]
        · exact .inl rfl
        · exact .inr (List.mem_cons_self ..)
      · exact .inr (List.mem_cons_of_mem _ h1)
    · rcases List.mem_cons.1 hu with rfl | hu
      · exact h2.trans hb.2.1
      · exact h3 u hu

/-- The speaker of an utterance, as a word. -/
theorem v65_at : val_main_v65 (F := Ideal) q (ix2 i b) = BitVec.ofNat 32 (spk q b i).val := by
  have hR : S512x8x9.Reduces [2] S512x8 := by decide
  unfold val_main_v65
  rw [Ideal.argReduce_eq_reduce2, Host.reduce2_eq_foldl_fiber]
  obtain ⟨h1, -, h3⟩ := foldl_reducer (Host.argReduceFiber q (val_main_call2_v0 (F := Ideal)) reducesTo_S512x8x9_S512x8_d2 (ix2 i b))
    (constant (F := Ideal) S_ .f32 0xFF800000#32 (Shape.Idx.first h_S_), constantI S_ 32 0#32 (Shape.Idx.first h_S_))
  generalize List.foldl _ _ _ = r at h1 h3 ⊢
  have hmem (s : Fin 9) : (q (ix3 i b s), BitVec.ofNat 32 s.val) ∈ Host.argReduceFiber q (val_main_call2_v0 (F := Ideal)) reducesTo_S512x8x9_S512x8_d2 (ix2 i b) := by
    refine List.mem_map.2 ⟨S512x8x9.rowMajor (ix3 i b s), List.mem_filter.2 ⟨List.mem_finRange _, ?_⟩, ?_⟩
    · rw [Equiv.symm_apply_apply, decide_eq_true_eq]
      ext a
      fin_cases a <;> rfl
    · rw [Equiv.symm_apply_apply]
      rfl
  have hof (p) (hp : p ∈ Host.argReduceFiber q (val_main_call2_v0 (F := Ideal)) reducesTo_S512x8x9_S512x8_d2 (ix2 i b)) :
      ∃ s : Fin 9, p = (q (ix3 i b s), BitVec.ofNat 32 s.val) := by
    obtain ⟨m, hm, rfl⟩ := List.mem_map.1 hp
    have hd := of_decide_eq_true (List.mem_filter.1 hm).2
    generalize S512x8x9.rowMajor.symm m = c at hd ⊢
    have e : c = ix3 i b (c 2) := by
      rw [Shape.ReducesTo.drop_eq_drop _ hR] at hd
      have := hR.lift_drop c
      rw [hd] at this
      rw [← this]
      ext a
      fin_cases a <;> rfl
    exact ⟨c 2, by rw [e]; rfl⟩
  have hnat (s : Fin 9) : (BitVec.ofNat 32 s.val).toInt = s.val := WordCmp.toInt_ofNat_of_lt (by omega)
  have key (s : Fin 9) (hv : ∀ t : Fin 9, q (ix3 i b t) ≤ q (ix3 i b s)) (hs : r.2 = BitVec.ofNat 32 s.val) (he : r.1 = q (ix3 i b s)) :
      r.2 = BitVec.ofNat 32 (spk q b i).val := by
    rw [hs, (spk_spec q b i).unique ⟨hv, fun t ht => lt_of_le_of_ne (hv t) fun e => ?_⟩]
    have := (h3 _ (hmem t)).2 (by rw [he]; exact e)
    rw [hs, hnat, hnat] at this
    omega
  rcases h1 with h1 | h1
  · have hbot (t : Fin 9) : q (ix3 i b t) = ⊥ := by
      have := (h3 _ (hmem t)).1
      rw [h1] at this
      exact le_bot_iff.1 (this.trans (le_of_eq lit_bot))
    exact key 0 (fun t => by rw [hbot, hbot]) (by rw [h1]; rfl) (by rw [h1, hbot]; exact lit_bot)
  · obtain ⟨s, rfl⟩ := hof _ h1
    exact key s (fun t => (h3 _ (hmem t)).1) rfl rfl

/-- The same-speaker mask. -/
theorem v72_at : val_main_v72 (F := Ideal) n q (ix3 b i j) = BitVec.ofBool (decide (Same n q b i j)) := by
  rw [val_main_v72_apply, v64_at, val_main_v71_apply, val_main_v69_apply, val_main_v67_apply, val_main_v66_apply,
    val_main_v70_apply, val_main_v68_apply, val_main_v66_apply]
  have e1 : idx_main_v66 (idx_main_v67 (idx_main_v69 (ix3 b i j))) = ix2 i b := by ext a; fin_cases a <;> rfl
  have e2 : idx_main_v66 (idx_main_v68 (idx_main_v70 (ix3 b i j))) = ix2 j b := by ext a; fin_cases a <;> rfl
  rw [e1, e2, v65_at, v65_at, same_word, andi_decide]
  rfl

/-- Whether a row has more than one position of the same speaker in its window. -/
theorem v80_at : val_main_v80 (F := Ideal) n q (ix2 b i) = BitVec.ofBool (decide (1 < cnt n q b i)) := by
  have hR : S8x512x512.Reduces [2] S8x512 := by decide
  have hcard : (Finset.univ.filter (Same n q b i)).card ≤ 512 := (Finset.card_le_univ _).trans (Fintype.card_fin 512).le
  have hn (k : Fin 512) : (val_main_v73 (F := Ideal) n q (hR.lift (ix2 b i) k)).toNat = if Same n q b i k then 1 else 0 := by
    have e : hR.lift (ix2 b i) k = ix3 b i k := by ext a; fin_cases a <;> rfl
    rw [e, val_main_v73_apply, v72_at]
    by_cases h : Same n q b i k <;> simp [h]
  have hs : (val_main_v74 (F := Ideal) n q (ix2 b i)).toNat = (Finset.univ.filter (Same n q b i)).card := by
    unfold val_main_v74
    rw [Host.reduce_eq_fold_single IntOp.addi _ _ _ hR]
    have e : (Finset.univ : Finset (Fin 512)).fold IntOp.addi (val_main_c_13 (F := Ideal) (Shape.Idx.first h_S_))
        (val_main_v73 (F := Ideal) n q ∘ hR.lift (ix2 b i)) = ∑ k, val_main_v73 (F := Ideal) n q (hR.lift (ix2 b i) k) := rfl
    refine (congrArg BitVec.toNat e).trans ?_
    have hsum : ∑ k, (val_main_v73 (F := Ideal) n q (hR.lift (ix2 b i) k)).toNat = (Finset.univ.filter (Same n q b i)).card := by
      rw [Finset.card_filter]
      exact Finset.sum_congr rfl fun k _ => hn k
    rw [WordSum.toNat_sum _ _ (by rw [hsum]; omega), hsum]
  rw [val_main_v80_apply, val_main_v79_apply, val_main_c_14_apply, WordCmp.cmpi_sgt_eq]
  refine congrArg BitVec.ofBool (decide_eq_decide.2 ?_)
  have hi : (val_main_v74 (F := Ideal) n q (ix2 b i)).toInt = ((Finset.univ.filter (Same n q b i)).card : ℤ) := by
    rw [BitVec.toInt_eq_toNat_of_lt (by rw [hs]; omega), hs]
  have h1 (m : ℕ) : (1#32).toInt < (m : ℤ) ↔ 1 < ((m : ℝ) : EReal) := by
    rw [show (1#32).toInt = 1 from rfl, ← EReal.coe_one, EReal.coe_lt_coe_iff, Nat.one_lt_cast, Nat.one_lt_cast]
  rw [hi, cnt_eq]
  exact h1 _

/-! ## Adjacency, degrees and the result -/

/-- The unnormalised adjacency. -/
theorem v85_at : val_main_v85 (F := Ideal) x n q (ix3 b i j) = adj x n q b i j := by
  rw [val_main_v85_apply, val_main_v84_apply, val_main_v83_apply, val_main_v82_apply, val_main_v81_apply, val_main_v78_apply,
    val_main_v77_apply, val_main_v76_apply, val_main_v75_apply, v42_at, v64_at, v72_at]
  have e : idx_main_v82 (idx_main_v83 (ix3 b i j)) = ix2 b i := by ext a; fin_cases a <;> rfl
  rw [e, v80_at, uitofp_decide, uitofp_decide, uitofp_decide, adj_eq]
  rfl

/-- A row's degree. -/
theorem v86_at : val_main_v86 (F := Ideal) x n q (ix2 b i) = deg x n q b i := by
  rw [val_main_v86_apply, val_main_cst_15_apply]
  show Ideal.ofBits .f32 0x00000000#32 + _ = _
  rw [Ideal.ofBits_zero_f32, zero_add]
  refine Finset.sum_congr rfl fun k _ => ?_
  have e : idx_main_v86 (ix2 b i) k = ix3 b i k := by ext a; fin_cases a <;> rfl
  rw [e, v85_at]

/-- A row's normaliser. -/
theorem v91_at : val_main_v91 (F := Ideal) x n q (ix2 b i) = dinv x n q b i := by
  rw [val_main_v91_apply, val_main_v90_apply, val_main_cst_18_apply, val_main_v89_apply, val_main_v88_apply, val_main_v87_apply,
    val_main_cst_16_apply, val_main_call3_v1_apply, val_main_call3_v0_apply, val_main_cst_17_apply, v86_at, ← pow_deg]
  show Ideal.pow (Scalar.select (BitVec.ofBool (decide (deg x n q b i = Ideal.ofBits .f32 0x00000000#32))) (Ideal.ofBits .f32 0x3F800000#32) _)
    (Ideal.ofBits .f32 0xBF000000#32) = _
  rw [Ideal.ofBits_zero_f32, lit_one, lit_neg_half, WordCmp.select_decide]

/-- The reference's result. -/
theorem v97_at : val_main_v97 (F := Ideal) x n q (ix3 b i j) = out x n q b i j := by
  rw [val_main_v97_apply, val_main_v96_apply, val_main_v95_apply, val_main_v94_apply, val_main_v93_apply, val_main_v92_apply, v85_at]
  have e1 : idx_main_v92 (idx_main_v93 (ix3 b i j)) = ix2 b i := by ext a; fin_cases a <;> rfl
  have e2 : idx_main_v95 (idx_main_v96 (ix3 b i j)) = ix2 b j := by ext a; fin_cases a <;> rfl
  rw [e1, e2, v91_at, v91_at]
  rfl

end Cert.ReferenceIdeal.Worth

end
-- ==== Proof.lean ====
/- The kernel's claims: each program terminates with its arguments unchanged and its counters at zero, the idealized kernel is the
   kernel with five constants named, and on the extended reals the kernel and the reference have the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.KernelLaunch
public import proofs.«01_k».proof.Proof.IdealLaunch
public import proofs.«01_k».proof.Proof.Final
public import proofs.«01_k».proof.Proof.RefRun
public import proofs.«01_k».proof.Proof.RefValue
public import Idealize.ShloMosaic.Adequacy
public import Idealize.ShloMosaic.Init
public import Idealize.ShloMosaic.Lib.ReduceAll

@[expose] public section

noncomputable section

namespace Cert.Proof

open Idealize.ShloMosaic Idealize.ShloMosaic.ValueIdx Idealize.SL.Sem

/-- The shape relations of the precondition. -/
instance pre_facts : Cert.Pre_above_padding.Facts := ⟨by decide, by decide, by decide⟩

/-- The kernel's frame. -/
theorem frame_p : Cert.quiescent_Kernel := fun m ρ _ => Cert.Kernel.Hand.frame m ρ

/-- The idealized kernel's frame. -/
theorem frame_pi : Cert.quiescent_KernelIdeal := fun m ρ _ => Cert.KernelIdeal.Hand.frame m ρ

/-- The reference's frame: its operations write no argument, and it declares no semaphore. -/
theorem frame_ri : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run m ρ)

/-- The idealized kernel differs from the kernel by the names of five constants. -/
theorem preserves : Cert.preserves_Kernel_KernelIdeal :=
  ⟨IdealRules.named_const.statement Cert.KernelIdeal.κ "eps2" .f32 0x24E69595#32 _ rfl,
   IdealRules.named_const.statement Cert.KernelIdeal.κ "a3_over_pi" .f32 0xBBC35A8B#32 _ rfl,
   IdealRules.named_const.statement Cert.KernelIdeal.κ "a2_over_pi" .f32 0x3CC1A480#32 _ rfl,
   IdealRules.named_const.statement Cert.KernelIdeal.κ "a1_over_pi" .f32 0xBD8A46EF#32 _ rfl,
   IdealRules.named_const.statement Cert.KernelIdeal.κ "a0_over_pi" .f32 0x3EFFFD2F#32 _ rfl⟩

/-- The precondition says that every mask is at least minus one. -/
theorem above_padding (m : (ℓ : Loc Cert.KernelIdeal.nD Cert.KernelIdeal.τ Cert.KernelIdeal.sig) → Buf (Elt Ideal) ℓ)
    (h : Cert.Pre_KernelIdeal_above_padding m) (c : Dev Cert.KernelIdeal.nD) : Cert.KernelIdeal.Worth.AbovePadding (Cert.KernelIdeal.Worth.mask m c) := by
  intro b j s
  have hall := Host.reduce_andi_all _ _ _ _ ix0 (congrFun (h c) ix0) (ix3 j b s)
  have hcmp : BitVec.ofBool (decide (Ideal.ofBits .f32 0xBF800000#32 ≤ Cert.KernelIdeal.Worth.mask m c (ix3 j b s))) = 1#1 := hall
  rw [Cert.Words.lit_neg_one] at hcmp
  by_contra hn
  rw [decide_eq_false hn] at hcmp
  exact absurd hcmp (by decide)

/-- The reference's result is the normalised adjacency. -/
theorem reference_whole (x : Cert.Spec.Feat) (n : Cert.Spec.Len) (q : Cert.Spec.Mask) :
    Cert.ReferenceIdeal.Read.val_main_v97 (F := Ideal) x n q = fun i => Cert.Spec.out x n q (i 0) (i 1) (i 2) :=
  funext fun i => (congrArg _ (eq_ix3 i)).trans (Cert.ReferenceIdeal.Worth.v97_at x n q (i 0) (i 1) (i 2))

/-- On the extended reals, where every mask is at least minus one, the idealized kernel and the reference have the same result. -/
theorem algebraic : Cert.algebraic_KernelIdeal_ReferenceIdeal_pre_above_padding := by
  intro m g m' g' hpre hargs
  refine ⟨Cert.KernelIdeal.Worth.whole m, Cert.KernelIdeal.Worth.run m g (above_padding m hpre), ?_⟩
  refine (θ_run Cert.ReferenceIdeal.defs _ _).mono (fun r h c => ⟨(h c).1.trans ?_, (h c).2⟩) (Cert.ReferenceIdeal.Value.run m' g')
  have h0 : StableHlo.launchContents m' c (Proc.devRef .tc Cert.ReferenceIdeal.main_arg0) = Cert.KernelIdeal.Worth.feat m c := (hargs c).1
  have h1 : StableHlo.launchContents m' c (Proc.devRef .tc Cert.ReferenceIdeal.main_arg1) = Cert.KernelIdeal.Worth.len m c := (hargs c).2.1
  have h2 : StableHlo.launchContents m' c (Proc.devRef .tc Cert.ReferenceIdeal.main_arg2) = Cert.KernelIdeal.Worth.mask m c := (hargs c).2.2
  refine (Cert.ReferenceIdeal.Read.val_main_v97_eq _).trans ?_
  rw [h0, h1, h2]
  exact reference_whole _ _ _

theorem claim : Cert.Claim := ⟨Cert.Kernel.Gen.facts, Cert.KernelIdeal.Gen.facts, Cert.ReferenceIdeal.Gen.facts, pre_facts,
  frame_p, frame_pi, fun m ρ _ => frame_pi m ρ trivial, frame_ri, fun m ρ _ => frame_ri m ρ trivial, preserves, algebraic⟩

end Cert.Proof

end
